-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048 : Shape := ⟨2, ![16, 2048]⟩
abbrev S32000x256 : Shape := ⟨2, ![32000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x32000 : Shape := ⟨2, ![256, 32000]⟩
abbrev S32000 : Shape := ⟨1, ![32000]⟩
abbrev S32768 : Shape := ⟨1, ![32768]⟩
abbrev S_ : Shape := ⟨0, ![]⟩
abbrev S32768x1 : Shape := ⟨2, ![32768, 1]⟩
abbrev S32768x256 : Shape := ⟨2, ![32768, 256]⟩
abbrev S1x16x16x128x256 : Shape := ⟨5, ![1, 16, 16, 128, 256]⟩
abbrev S1x512 : Shape := ⟨2, ![1, 512]⟩
abbrev S1x256 : Shape := ⟨2, ![1, 256]⟩
abbrev S1x32000 : Shape := ⟨2, ![1, 32000]⟩
abbrev S16x32000 : Shape := ⟨2, ![16, 32000]⟩
abbrev S1x16x1x128x256 : Shape := ⟨5, ![1, 16, 1, 128, 256]⟩
abbrev S256x3200 : Shape := ⟨2, ![256, 3200]⟩
abbrev S1x3200 : Shape := ⟨2, ![1, 3200]⟩
abbrev S16x3200 : Shape := ⟨2, ![16, 3200]⟩
abbrev S2x2048x256 : Shape := ⟨3, ![2, 2048, 256]⟩
abbrev S16x256 : Shape := ⟨2, ![16, 256]⟩
abbrev S16x128x256 : Shape := ⟨3, ![16, 128, 256]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S1x2048x256 : Shape := ⟨3, ![1, 2048, 256]⟩
abbrev S128x1 : Shape := ⟨2, ![128, 1]⟩
abbrev S128x128 : Shape := ⟨2, ![128, 128]⟩
abbrev S128x256 : Shape := ⟨2, ![128, 256]⟩
abbrev S128 : Shape := ⟨1, ![128]⟩

abbrev nBuf : Space → Nat
  | .hbm => 31
  | .vmem => 37
  | .smem => 0
  | _ => 0

abbrev bufTy : (tb : Table) → Fin (tcTables nBuf tb) → BufTy
  | .hbm, ⟨0, _⟩ => ⟨S16x2048, .i32⟩
  | .hbm, ⟨1, _⟩ => ⟨S32000x256, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x32000, .f32⟩
  | .hbm, ⟨12, _⟩ => ⟨S32000, .f32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x256, .f32⟩
  | .hbm, ⟨23, _⟩ => ⟨S1x16x16x128x256, .f32⟩
  | .hbm, ⟨24, _⟩ => ⟨S1x512, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x32000, .f32⟩
  | .hbm, ⟨30, _⟩ => ⟨S16x32000, .f32⟩
  | .local _ .vmem, ⟨0, _⟩ => ⟨S1x16x1x128x256, .f32⟩
  | .local _ .vmem, ⟨1, _⟩ => ⟨S1x16x1x128x256, .f32⟩
  | .local _ .vmem, ⟨2, _⟩ => ⟨S1x16x1x128x256, .f32⟩
  | .local _ .vmem, ⟨3, _⟩ => ⟨S1x16x1x128x256, .f32⟩
  | .local _ .vmem, ⟨4, _⟩ => ⟨S256x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S256x3200, .f32⟩
  | .local _ .vmem, ⟨14, _⟩ => ⟨S256x3200, .f32⟩
  | .local _ .vmem, ⟨15, _⟩ => ⟨S1x3200, .f32⟩
  | .local _ .vmem, ⟨16, _⟩ => ⟨S1x3200, .f32⟩
  | .local _ .vmem, ⟨17, _⟩ => ⟨S16x3200, .f32⟩
  | .local _ .vmem, ⟨18, _⟩ => ⟨S16x3200, .f32⟩
  | .local _ .vmem, ⟨19, _⟩ => ⟨S2x2048x256, .f32⟩
  | .local _ .vmem, ⟨20, _⟩ => ⟨S16x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_scratch16 : Ref sig .tc := ⟨.vmem, 35, rfl⟩
abbrev cc0_scratch17 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![1, 26], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let c2_i32 : BitVec 32 := 2#32
  let v9 : BitVec 32 := Scalar.remsi arg1 c2_i32
  let v10 : Index := Scalar.indexCast v9
  let c0 : Index := 0#32
  let c0_4 : Index := 0#32
  ![v10.toNat, 0, 0]
def k0_off2 (i : grid0.Coords) : Fin 3 → Nat :=
  let arg1 : BitVec 32 := BitVec.ofNat 32 (i 1).val
  let c1_i32 : BitVec 32 := 1#32
  let v63 : BitVec 32 := Scalar.addi arg1 c1_i32
  let c2_i32_32 : BitVec 32 := 2#32
  let v64 : BitVec 32 := Scalar.remsi v63 c2_i32_32
  let v65 : Index := Scalar.indexCast v64
  let c0_33 : Index := 0#32
  let c0_34 : Index := 0#32
  ![v65.toNat, 0, 0]
def k0_cond4 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

def cc0_transform_0 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![arg0.toNat, c0_i32.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

abbrev stage0_0 : Fin 2 → Memref sig .tc .vmem S1x16x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x3200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x3200 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S16x3200 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]
-- ==== ReferenceIdeal.lean ====
abbrev S16x2048 : Shape := ⟨2, ![16, 2048]⟩
abbrev S32000x256 : Shape := ⟨2, ![32000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x32000 : Shape := ⟨2, ![256, 32000]⟩
abbrev S32000 : Shape := ⟨1, ![32000]⟩
abbrev S_ : Shape := ⟨0, ![]⟩
abbrev S16x2048x1 : Shape := ⟨3, ![16, 2048, 1]⟩
abbrev S16x2048x256 : Shape := ⟨3, ![16, 2048, 256]⟩
abbrev S16x2048x512 : Shape := ⟨3, ![16, 2048, 512]⟩
abbrev S1x1x512 : Shape := ⟨3, ![1, 1, 512]⟩
abbrev S1x1x256 : Shape := ⟨3, ![1, 1, 256]⟩
abbrev S16x256x256 : Shape := ⟨3, ![16, 256, 256]⟩
abbrev S16x2047x256 : Shape := ⟨3, ![16, 2047, 256]⟩
abbrev S2047x16x256 : Shape := ⟨3, ![2047, 16, 256]⟩
abbrev S1x16x256 : Shape := ⟨3, ![1, 16, 256]⟩
abbrev S16x256 : Shape := ⟨2, ![16, 256]⟩
abbrev S16 : Shape := ⟨1, ![16]⟩
abbrev S16x1 : Shape := ⟨2, ![16, 1]⟩
abbrev S16x256x1 : Shape := ⟨3, ![16, 256, 1]⟩
abbrev S16x1x256 : Shape := ⟨3, ![16, 1, 256]⟩
abbrev S1x256 : Shape := ⟨2, ![1, 256]⟩
abbrev S16x32000 : Shape := ⟨2, ![16, 32000]⟩
abbrev S1x32000 : Shape := ⟨2, ![1, 32000]⟩

abbrev nBuf : Space → Nat
  | .hbm => 109
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S32000x256, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x32000, .f32⟩
  | .hbm, ⟨12, _⟩ => ⟨S32000, .f32⟩
  | .hbm, ⟨13, _⟩ => ⟨S_, .i32⟩
  | .hbm, ⟨14, _⟩ => ⟨S16x2048, .i32⟩
  | .hbm, ⟨15, _⟩ => ⟨S16x2048, .i1⟩
  | .hbm, ⟨16, _⟩ => ⟨S_, .i32⟩
  | .hbm, ⟨17, _⟩ => ⟨S16x2048, .i32⟩
  | .hbm, ⟨18, _⟩ => ⟨S16x2048, .i32⟩
  | .hbm, ⟨19, _⟩ => ⟨S16x2048, .i32⟩
  | .hbm, ⟨20, _⟩ => ⟨S16x2048x1, .i32⟩
  | .hbm, ⟨21, _⟩ => ⟨S16x2048x256, .f32⟩
  | .hbm, ⟨22, _⟩ => ⟨S16x2048x512, .f32⟩
  | .hbm, ⟨23, _⟩ => ⟨S1x1x512, .f32⟩
  | .hbm, ⟨24, _⟩ => ⟨S16x2048x512, .f32⟩
  | .hbm, ⟨25, _⟩ => ⟨S16x2048x512, .f32⟩
  | .hbm, ⟨26, _⟩ => ⟨S_, .f32⟩
  | .hbm, ⟨27, _⟩ => ⟨S16x2048x512, .f32⟩
  | .hbm, ⟨28, _⟩ => ⟨S16x2048x512, .f32⟩
  | .hbm, ⟨29, _⟩ => ⟨S16x2048x256, .f32⟩
  | .hbm, ⟨30, _⟩ => ⟨S1x1x256, .f32⟩
  | .hbm, ⟨31, _⟩ => ⟨S16x2048x256, .f32⟩
  | .hbm, ⟨32, _⟩ => ⟨S16x2048x256, .f32⟩
  | .hbm, ⟨33, _⟩ => ⟨S16x2048x256, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x256, .f32⟩
  | .hbm, ⟨41, _⟩ => ⟨S16x2048x256, .f32⟩
  | .hbm, ⟨42, _⟩ => ⟨S16x2048x256, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x256, .f32⟩
  | .hbm, ⟨50, _⟩ => ⟨S16x2048x256, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S16x2048x1, .f32⟩
  | .hbm, ⟨55, _⟩ => ⟨S16x2048x256, .f32⟩
  | .hbm, ⟨56, _⟩ => ⟨S16x2048x256, .f32⟩
  | .hbm, ⟨57, _⟩ => ⟨S1x1x256, .f32⟩
  | .hbm, ⟨58, _⟩ => ⟨S16x2048x256, .f32⟩
  | .hbm, ⟨59, _⟩ => ⟨S16x2048x256, .f32⟩
  | .hbm, ⟨60, _⟩ => ⟨S1x1x256, .f32⟩
  | .hbm, ⟨61, _⟩ => ⟨S16x2048x256, .f32⟩
  | .hbm, ⟨62, _⟩ => ⟨S16x2048x256, .f32⟩
  | .hbm, ⟨63, _⟩ => ⟨S16x2048x256, .f32⟩
  | .hbm, ⟨64, _⟩ => ⟨S_, .f32⟩
  | .hbm, ⟨65, _⟩ => ⟨S16x256x256, .f32⟩
  | .hbm, ⟨66, _⟩ => ⟨S16x2047x256, .f32⟩
  | .hbm, ⟨67, _⟩ => ⟨S2047x16x256, .f32⟩
  | .hbm, ⟨68, _⟩ => ⟨S_, .i32⟩
  | .hbm, ⟨69, _⟩ => ⟨S2047x16x256, .f32⟩
  | .hbm, ⟨70, _⟩ => ⟨S_, .i32⟩
  | .hbm, ⟨71, _⟩ => ⟨S16x256x256, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S1x16x256, .f32⟩
  | .hbm, ⟨77, _⟩ => ⟨S16x256, .f32⟩
  | .hbm, ⟨78, _⟩ => ⟨S16x256, .f32⟩
  | .hbm, ⟨79, _⟩ => ⟨S_, .f32⟩
  | .hbm, ⟨80, _⟩ => ⟨S16, .f32⟩
  | .hbm, ⟨81, _⟩ => ⟨S16x1, .f32⟩
  | .hbm, ⟨82, _⟩ => ⟨S16x1, .f32⟩
  | .hbm, ⟨83, _⟩ => ⟨S_, .f32⟩
  | .hbm, ⟨84, _⟩ => ⟨S16x1, .f32⟩
  | .hbm, ⟨85, _⟩ => ⟨S16x1, .f32⟩
  | .hbm, ⟨86, _⟩ => ⟨S16x256, .f32⟩
  | .hbm, ⟨87, _⟩ => ⟨S16x256, .f32⟩
  | .hbm, ⟨88, _⟩ => ⟨S16x256, .f32⟩
  | .hbm, ⟨89, _⟩ => ⟨S16x256, .f32⟩
  | .hbm, ⟨90, _⟩ => ⟨S16x256x1, .f32⟩
  | .hbm, ⟨91, _⟩ => ⟨S16x1x256, .f32⟩
  | .hbm, ⟨92, _⟩ => ⟨S16x256x256, .f32⟩
  | .hbm, ⟨93, _⟩ => ⟨S16x256x256, .f32⟩
  | .hbm, ⟨94, _⟩ => ⟨S16x256x256, .f32⟩
  | .hbm, ⟨95, _⟩ => ⟨S16x256x256, .f32⟩
  | .hbm, ⟨96, _⟩ => ⟨S_, .i32⟩
  | .hbm, ⟨97, _⟩ => ⟨S_, .i32⟩
  | .hbm, ⟨98, _⟩ => ⟨S16x1x256, .f32⟩
  | .hbm, ⟨99, _⟩ => ⟨S16x256, .f32⟩
  | .hbm, ⟨100, _⟩ => ⟨S16x256, .f32⟩
  | .hbm, ⟨101, _⟩ => ⟨S16x256, .f32⟩
  | .hbm, ⟨102, _⟩ => ⟨S1x256, .f32⟩
  | .hbm, ⟨103, _⟩ => ⟨S16x256, .f32⟩
  | .hbm, ⟨104, _⟩ => ⟨S16x256, .f32⟩
  | .hbm, ⟨105, _⟩ => ⟨S16x32000, .f32⟩
  | .hbm, ⟨106, _⟩ => ⟨S1x32000, .f32⟩
  | .hbm, ⟨107, _⟩ => ⟨S16x32000, .f32⟩
  | .hbm, ⟨108, _⟩ => ⟨S16x32000, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_while0c_c_10 : Ref sig .tc := ⟨.hbm, 72, rfl⟩
abbrev main_while0c_v58 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_v0 : Ref sig .tc := ⟨.hbm, 76, rfl⟩
abbrev main_while0b_v58 : Ref sig .tc := ⟨.hbm, 77, rfl⟩
abbrev main_while0b_call1_v0 : Ref sig .tc := ⟨.hbm, 78, rfl⟩
abbrev main_while0b_call1_cst : Ref sig .tc := ⟨.hbm, 79, rfl⟩
abbrev main_while0b_call1_v1 : Ref sig .tc := ⟨.hbm, 80, rfl⟩
abbrev main_while0b_call1_v2 : Ref sig .tc := ⟨.hbm, 81, rfl⟩
abbrev main_while0b_v59 : Ref sig .tc := ⟨.hbm, 82, rfl⟩
abbrev main_while0b_cst_10 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_c_11 : Ref sig .tc := ⟨.hbm, 96, rfl⟩
abbrev main_while0b_v72 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩

abbrev nD : Nat := 1
abbrev τ : Topo := Topo.v7x

variable {F : FTy → Type} [FloatOps F]

abbrev main_while0_count : Scf.Loop 32 := ⟨0#32, 2047#32, 1#32⟩
-- ==== Proof.KB.Base.lean ====
/- What the runs of the kernel's body share: its branch conditions over the grid, where the output window is idle,
   and the buffers it is run on. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 26 = 0 :=
  (fun t => by
    have ht : t.val < 26 := Nat.lt_of_lt_of_eq t.isLt N_0
    have e0 : (grid0.coords t 0).val = t.val / 26 % 1 := Pipeline.Grid.coords_val t 0 (by decide) rfl
    have e1 : (grid0.coords t 1).val = t.val / 1 % 26 := Pipeline.Grid.coords_val t 1 (by decide) rfl
    simp only [cond0_0, e0, e1]
    word_cmp
   : ∀ t : Fin grid0.N, cond0_0 (grid0.coords t) ↔ t.val % 26 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 15#32)) 0#32) = 1#1
/-- It holds at point 15 only — by arithmetic of the point. -/
theorem hcond0_2 : ∀ t : Fin cfg0.N, cond0_2 (grid0.coords t) ↔ t.val % 26 = 15 :=
  (fun t => by
    have ht : t.val < 26 := Nat.lt_of_lt_of_eq t.isLt N_0
    have e0 : (grid0.coords t 0).val = t.val / 26 % 1 := Pipeline.Grid.coords_val t 0 (by decide) rfl
    have e1 : (grid0.coords t 1).val = t.val / 1 % 26 := Pipeline.Grid.coords_val t 1 (by decide) rfl
    simp only [cond0_2, e0, e1]
    word_cmp
   : ∀ t : Fin grid0.N, cond0_2 (grid0.coords t) ↔ t.val % 26 = 15)

/-- The condition of the body's `scf.if` 3 (`k0_h4`), from the grid coordinates (the skeleton's scalar
    chain substituted). -/
abbrev cond0_3 (i : grid0.Coords) : Prop := k0_cond4 i = 1#1
/-- It holds at the points from point 16 on — decided over the grid. -/
theorem hcond0_3 : ∀ t : Fin cfg0.N, cond0_3 (grid0.coords t) ↔ 16 ≤ t.val :=
  (by decide +kernel : ∀ t : Fin grid0.N, cond0_3 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x16x1x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x3200 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3200 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x3200 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2x2048x256 .f32 := Memref.whole cc0_scratch0
abbrev scM0_1 : Memref sig .tc .vmem S16x256 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x256 .f32 := Memref.whole cc0_scratch4
abbrev scM0_5 : Memref sig .tc .vmem S256x256 .f32 := Memref.whole cc0_scratch5
abbrev scM0_6 : Memref sig .tc .vmem S256x256 .f32 := Memref.whole cc0_scratch6
abbrev scM0_7 : Memref sig .tc .vmem S256x256 .f32 := Memref.whole cc0_scratch7
abbrev scM0_8 : Memref sig .tc .vmem S256x256 .f32 := Memref.whole cc0_scratch8
abbrev scM0_9 : Memref sig .tc .vmem S256x256 .f32 := Memref.whole cc0_scratch9
abbrev scM0_10 : Memref sig .tc .vmem S256x256 .f32 := Memref.whole cc0_scratch10
abbrev scM0_11 : Memref sig .tc .vmem S256x256 .f32 := Memref.whole cc0_scratch11
abbrev scM0_12 : Memref sig .tc .vmem S256x256 .f32 := Memref.whole cc0_scratch12
abbrev scM0_13 : Memref sig .tc .vmem S256x256 .f32 := Memref.whole cc0_scratch13
abbrev scM0_14 : Memref sig .tc .vmem S256x256 .f32 := Memref.whole cc0_scratch14
abbrev scM0_15 : Memref sig .tc .vmem S256x256 .f32 := Memref.whole cc0_scratch15
abbrev scM0_16 : Memref sig .tc .vmem S256x256 .f32 := Memref.whole cc0_scratch16
abbrev scM0_17 : Memref sig .tc .vmem S256x256 .f32 := Memref.whole cc0_scratch17

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, scM0_14, scM0_15, scM0_16, scM0_17, owns_whole]; try rfl

end Cert.Kernel.Gen

end
-- ==== Proof.KB.RunA.lean ====
/- The whole body of the kernel run at the first point (case A). -/
module

public import proofs.«01_k».proof.Proof.KB.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the first point the body, run on whole buffers holding `x0` … `x31`, keeps its inputs and leaves in the output window,
    the key buffer, the read-out rows and the sixteen memories what it stored there (`L0` … `L18`, last store first,
    found by the run; none where it stores nothing). -/
theorem runA (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : cond0_0 i) (hc1 : cond0_1 i) (hc2 : ¬cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} harg17.unread x15) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  refine ⟨?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part1_eq_skeleton, k0_part2_eq_skeleton, k0_part3_eq_skeleton, k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31

end Cert.Kernel.Gen

end
-- ==== Proof.KB.RunB.lean ====
/- The whole body of the kernel run at the points 1 to 14 (case B). -/
module

public import proofs.«01_k».proof.Proof.KB.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the points 1 to 14 the body, run on whole buffers holding `x0` … `x31`, keeps its inputs and leaves in the output window,
    the key buffer, the read-out rows and the sixteen memories what it stored there (`L0` … `L18`, last store first,
    found by the run; none where it stores nothing). -/
theorem runB (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : ¬cond0_0 i) (hc1 : cond0_1 i) (hc2 : ¬cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} harg17.unread x15) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  refine ⟨?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31

end Cert.Kernel.Gen

end
-- ==== Proof.KB.RunC.lean ====
/- The whole body of the kernel run at point 15 (case C). -/
module

public import proofs.«01_k».proof.Proof.KB.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At point 15 the body, run on whole buffers holding `x0` … `x31`, keeps its inputs and leaves in the output window,
    the key buffer, the read-out rows and the sixteen memories what it stored there (`L0` … `L18`, last store first,
    found by the run; none where it stores nothing). -/
theorem runC (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : ¬cond0_0 i) (hc1 : cond0_1 i) (hc2 : cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L2 : List (View.Piece (Elt F) S16x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} arg17.view.writes (Elt F) (harg17.unread x15) L2) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  refine ⟨?_, ?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part4_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31

end Cert.Kernel.Gen

end
-- ==== Proof.KB.Step.lean ====
/- The body of the kernel at a point of the grid, its scratch buffers and output window at some contents before and after. -/
module

public import proofs.«01_k».proof.Proof.KB.RunA
public import proofs.«01_k».proof.Proof.KB.RunB
public import proofs.«01_k».proof.Proof.KB.RunC
public import proofs.«01_k».proof.Proof.KB.RunD

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input windows' buffers at point `t` holding `x0` … `x12`, the output window's and the scratch buffers at some contents. -/
def held (c : Dev nD) (t : Fin cfg0.N) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) : sProp 𝕄 :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8 ∗ owns (c : Thread nD τ) (ms0_9 t) fullShare x9 ∗ owns (c : Thread nD τ) (ms0_10 t) fullShare x10 ∗ owns (c : Thread nD τ) (ms0_11 t) fullShare x11 ∗ owns (c : Thread nD τ) (ms0_12 t) fullShare x12 ∗ (∃ d, owns (c : Thread nD τ) (ms0_13 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d))

/-- A whole buffer owned at `x` is its points-to at the contents that read `x`. -/
theorem owns_unread (c : Dev nD) {s : Shape} (M : Memref sig .tc .vmem s .f32) (h : M.IsWhole) (x : Vec F s .f32) :
    (owns (c : Thread nD τ) M fullShare x : sProp 𝕄) = (M.view.loc (c : Thread nD τ) ↦[M.view.set]{fullShare} h.unread x) := by
  have h₁ : (owns (c : Thread nD τ) M fullShare x : sProp 𝕄) ⊢ (M.view.loc (c : Thread nD τ) ↦[M.view.set]{fullShare} h.unread x) := by
    unfold owns
    iintro ⟨%f, %hf, H⟩
    rw [show f = h.unread x from h.eq_unread hf]
    iexact H
  have h₂ := owns_intro (Ix := Unit) (Name := ℕ) (U := UR sig nD τ) (Lvl := ℕ) (c : Thread nD τ) M fullShare (h.unread x)
  rw [h.read_unread] at h₂
  exact BI.equiv_iff.mp ⟨h₁, h₂⟩

set_option maxHeartbeats 2000000 in
/-- The body at a point of case A. -/
theorem stepA (c : Dev nD) (t : Fin cfg0.N) (h0 : cond0_0 (grid0.coords t)) (h1 : cond0_1 (grid0.coords t)) (h2 : ¬cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32)
    (E : Set ℕ) (K : PUnit → sProp 𝕄) :
    iprop(held c t x0 x1 x2 x3 x4 x5 x6 x7 x8 x9 x10 x11 x12 ∗ (held c t x0 x1 x2 x3 x4 x5 x6 x7 x8 x9 x10 x11 x12 -∗ K ⟨⟩)) ⊢ wp frame (wpE (defs₀ (F := F)) Variants.none c none) E (bodyAt0 t) K := by
  unfold held
  iintro ⟨⟨H0, H1, H2, H3, H4, H5, H6, H7, H8, H9, H10, H11, H12, ⟨%o, H13⟩, ⟨%s0, H14⟩, ⟨%s1, H15⟩, ⟨%s2, H16⟩, ⟨%s3, H17⟩, ⟨%s4, H18⟩, ⟨%s5, H19⟩, ⟨%s6, H20⟩, ⟨%s7, H21⟩, ⟨%s8, H22⟩, ⟨%s9, H23⟩, ⟨%s10, H24⟩, ⟨%s11, H25⟩, ⟨%s12, H26⟩, ⟨%s13, H27⟩, ⟨%s14, H28⟩, ⟨%s15, H29⟩, ⟨%s16, H30⟩, ⟨%s17, H31⟩⟩, Hk⟩
  obtain ⟨L1, L3, L4, L5, L6, L7, L8, L9, L10, L11, L12, L13, L14, L15, L16, L17, L18, h⟩ := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o s0 s1 s2 s3 s4 s5 s6 s7 s8 s9 s10 s11 s12 s13 s14 s15 s16 s17
  have h' := h E K
  rw [← owns_unread c (ms0_0 t) (hs0_0 t) x0, ← owns_unread c (ms0_1 t) (hs0_1 t) x1, ← owns_unread c (ms0_2 t) (hs0_2 t) x2, ← owns_unread c (ms0_3 t) (hs0_3 t) x3, ← owns_unread c (ms0_4 t) (hs0_4 t) x4, ← owns_unread c (ms0_5 t) (hs0_5 t) x5, ← owns_unread c (ms0_6 t) (hs0_6 t) x6, ← owns_unread c (ms0_7 t) (hs0_7 t) x7, ← owns_unread c (ms0_8 t) (hs0_8 t) x8, ← owns_unread c (ms0_9 t) (hs0_9 t) x9, ← owns_unread c (ms0_10 t) (hs0_10 t) x10, ← owns_unread c (ms0_11 t) (hs0_11 t) x11, ← owns_unread c (ms0_12 t) (hs0_12 t) x12, ← owns_unread c (ms0_13 t) (hs0_13 t) o, ← owns_unread c scM0_0 (Memref.isWhole_whole _) s0, ← owns_unread c scM0_1 (Memref.isWhole_whole _) s1, ← owns_unread c scM0_2 (Memref.isWhole_whole _) s2, ← owns_unread c scM0_3 (Memref.isWhole_whole _) s3, ← owns_unread c scM0_4 (Memref.isWhole_whole _) s4, ← owns_unread c scM0_5 (Memref.isWhole_whole _) s5, ← owns_unread c scM0_6 (Memref.isWhole_whole _) s6, ← owns_unread c scM0_7 (Memref.isWhole_whole _) s7, ← owns_unread c scM0_8 (Memref.isWhole_whole _) s8, ← owns_unread c scM0_9 (Memref.isWhole_whole _) s9, ← owns_unread c scM0_10 (Memref.isWhole_whole _) s10, ← owns_unread c scM0_11 (Memref.isWhole_whole _) s11, ← owns_unread c scM0_12 (Memref.isWhole_whole _) s12, ← owns_unread c scM0_13 (Memref.isWhole_whole _) s13, ← owns_unread c scM0_14 (Memref.isWhole_whole _) s14, ← owns_unread c scM0_15 (Memref.isWhole_whole _) s15, ← owns_unread c scM0_16 (Memref.isWhole_whole _) s16, ← owns_unread c scM0_17 (Memref.isWhole_whole _) s17] at h'
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iapply (owns_intro _ _ _ _); iexact H14
  isplitl [H15]; · iexists _; iexact H15
  isplitl [H16]; · iexists _; iapply (owns_intro _ _ _ _); iexact H16
  isplitl [H17]; · iexists _; iapply (owns_intro _ _ _ _); iexact H17
  isplitl [H18]; · iexists _; iapply (owns_intro _ _ _ _); iexact H18
  isplitl [H19]; · iexists _; iapply (owns_intro _ _ _ _); iexact H19
  isplitl [H20]; · iexists _; iapply (owns_intro _ _ _ _); iexact H20
  isplitl [H21]; · iexists _; iapply (owns_intro _ _ _ _); iexact H21
  isplitl [H22]; · iexists _; iapply (owns_intro _ _ _ _); iexact H22
  isplitl [H23]; · iexists _; iapply (owns_intro _ _ _ _); iexact H23
  isplitl [H24]; · iexists _; iapply (owns_intro _ _ _ _); iexact H24
  isplitl [H25]; · iexists _; iapply (owns_intro _ _ _ _); iexact H25
  isplitl [H26]; · iexists _; iapply (owns_intro _ _ _ _); iexact H26
  isplitl [H27]; · iexists _; iapply (owns_intro _ _ _ _); iexact H27
  isplitl [H28]; · iexists _; iapply (owns_intro _ _ _ _); iexact H28
  isplitl [H29]; · iexists _; iapply (owns_intro _ _ _ _); iexact H29
  isplitl [H30]; · iexists _; iapply (owns_intro _ _ _ _); iexact H30
  iexists _; iapply (owns_intro _ _ _ _); iexact H31

set_option maxHeartbeats 2000000 in
/-- The body at a point of case B. -/
theorem stepB (c : Dev nD) (t : Fin cfg0.N) (h0 : ¬cond0_0 (grid0.coords t)) (h1 : cond0_1 (grid0.coords t)) (h2 : ¬cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32)
    (E : Set ℕ) (K : PUnit → sProp 𝕄) :
    iprop(held c t x0 x1 x2 x3 x4 x5 x6 x7 x8 x9 x10 x11 x12 ∗ (held c t x0 x1 x2 x3 x4 x5 x6 x7 x8 x9 x10 x11 x12 -∗ K ⟨⟩)) ⊢ wp frame (wpE (defs₀ (F := F)) Variants.none c none) E (bodyAt0 t) K := by
  unfold held
  iintro ⟨⟨H0, H1, H2, H3, H4, H5, H6, H7, H8, H9, H10, H11, H12, ⟨%o, H13⟩, ⟨%s0, H14⟩, ⟨%s1, H15⟩, ⟨%s2, H16⟩, ⟨%s3, H17⟩, ⟨%s4, H18⟩, ⟨%s5, H19⟩, ⟨%s6, H20⟩, ⟨%s7, H21⟩, ⟨%s8, H22⟩, ⟨%s9, H23⟩, ⟨%s10, H24⟩, ⟨%s11, H25⟩, ⟨%s12, H26⟩, ⟨%s13, H27⟩, ⟨%s14, H28⟩, ⟨%s15, H29⟩, ⟨%s16, H30⟩, ⟨%s17, H31⟩⟩, Hk⟩
  obtain ⟨L1, L3, L4, L5, L6, L7, L8, L9, L10, L11, L12, L13, L14, L15, L16, L17, L18, h⟩ := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o s0 s1 s2 s3 s4 s5 s6 s7 s8 s9 s10 s11 s12 s13 s14 s15 s16 s17
  have h' := h E K
  rw [← owns_unread c (ms0_0 t) (hs0_0 t) x0, ← owns_unread c (ms0_1 t) (hs0_1 t) x1, ← owns_unread c (ms0_2 t) (hs0_2 t) x2, ← owns_unread c (ms0_3 t) (hs0_3 t) x3, ← owns_unread c (ms0_4 t) (hs0_4 t) x4, ← owns_unread c (ms0_5 t) (hs0_5 t) x5, ← owns_unread c (ms0_6 t) (hs0_6 t) x6, ← owns_unread c (ms0_7 t) (hs0_7 t) x7, ← owns_unread c (ms0_8 t) (hs0_8 t) x8, ← owns_unread c (ms0_9 t) (hs0_9 t) x9, ← owns_unread c (ms0_10 t) (hs0_10 t) x10, ← owns_unread c (ms0_11 t) (hs0_11 t) x11, ← owns_unread c (ms0_12 t) (hs0_12 t) x12, ← owns_unread c (ms0_13 t) (hs0_13 t) o, ← owns_unread c scM0_0 (Memref.isWhole_whole _) s0, ← owns_unread c scM0_1 (Memref.isWhole_whole _) s1, ← owns_unread c scM0_2 (Memref.isWhole_whole _) s2, ← owns_unread c scM0_3 (Memref.isWhole_whole _) s3, ← owns_unread c scM0_4 (Memref.isWhole_whole _) s4, ← owns_unread c scM0_5 (Memref.isWhole_whole _) s5, ← owns_unread c scM0_6 (Memref.isWhole_whole _) s6, ← owns_unread c scM0_7 (Memref.isWhole_whole _) s7, ← owns_unread c scM0_8 (Memref.isWhole_whole _) s8, ← owns_unread c scM0_9 (Memref.isWhole_whole _) s9, ← owns_unread c scM0_10 (Memref.isWhole_whole _) s10, ← owns_unread c scM0_11 (Memref.isWhole_whole _) s11, ← owns_unread c scM0_12 (Memref.isWhole_whole _) s12, ← owns_unread c scM0_13 (Memref.isWhole_whole _) s13, ← owns_unread c scM0_14 (Memref.isWhole_whole _) s14, ← owns_unread c scM0_15 (Memref.isWhole_whole _) s15, ← owns_unread c scM0_16 (Memref.isWhole_whole _) s16, ← owns_unread c scM0_17 (Memref.isWhole_whole _) s17] at h'
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iapply (owns_intro _ _ _ _); iexact H14
  isplitl [H15]; · iexists _; iexact H15
  isplitl [H16]; · iexists _; iapply (owns_intro _ _ _ _); iexact H16
  isplitl [H17]; · iexists _; iapply (owns_intro _ _ _ _); iexact H17
  isplitl [H18]; · iexists _; iapply (owns_intro _ _ _ _); iexact H18
  isplitl [H19]; · iexists _; iapply (owns_intro _ _ _ _); iexact H19
  isplitl [H20]; · iexists _; iapply (owns_intro _ _ _ _); iexact H20
  isplitl [H21]; · iexists _; iapply (owns_intro _ _ _ _); iexact H21
  isplitl [H22]; · iexists _; iapply (owns_intro _ _ _ _); iexact H22
  isplitl [H23]; · iexists _; iapply (owns_intro _ _ _ _); iexact H23
  isplitl [H24]; · iexists _; iapply (owns_intro _ _ _ _); iexact H24
  isplitl [H25]; · iexists _; iapply (owns_intro _ _ _ _); iexact H25
  isplitl [H26]; · iexists _; iapply (owns_intro _ _ _ _); iexact H26
  isplitl [H27]; · iexists _; iapply (owns_intro _ _ _ _); iexact H27
  isplitl [H28]; · iexists _; iapply (owns_intro _ _ _ _); iexact H28
  isplitl [H29]; · iexists _; iapply (owns_intro _ _ _ _); iexact H29
  isplitl [H30]; · iexists _; iapply (owns_intro _ _ _ _); iexact H30
  iexists _; iapply (owns_intro _ _ _ _); iexact H31

set_option maxHeartbeats 2000000 in
/-- The body at a point of case C. -/
theorem stepC (c : Dev nD) (t : Fin cfg0.N) (h0 : ¬cond0_0 (grid0.coords t)) (h1 : cond0_1 (grid0.coords t)) (h2 : cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32)
    (E : Set ℕ) (K : PUnit → sProp 𝕄) :
    iprop(held c t x0 x1 x2 x3 x4 x5 x6 x7 x8 x9 x10 x11 x12 ∗ (held c t x0 x1 x2 x3 x4 x5 x6 x7 x8 x9 x10 x11 x12 -∗ K ⟨⟩)) ⊢ wp frame (wpE (defs₀ (F := F)) Variants.none c none) E (bodyAt0 t) K := by
  unfold held
  iintro ⟨⟨H0, H1, H2, H3, H4, H5, H6, H7, H8, H9, H10, H11, H12, ⟨%o, H13⟩, ⟨%s0, H14⟩, ⟨%s1, H15⟩, ⟨%s2, H16⟩, ⟨%s3, H17⟩, ⟨%s4, H18⟩, ⟨%s5, H19⟩, ⟨%s6, H20⟩, ⟨%s7, H21⟩, ⟨%s8, H22⟩, ⟨%s9, H23⟩, ⟨%s10, H24⟩, ⟨%s11, H25⟩, ⟨%s12, H26⟩, ⟨%s13, H27⟩, ⟨%s14, H28⟩, ⟨%s15, H29⟩, ⟨%s16, H30⟩, ⟨%s17, H31⟩⟩, Hk⟩
  obtain ⟨L1, L2, L3, L4, L5, L6, L7, L8, L9, L10, L11, L12, L13, L14, L15, L16, L17, L18, h⟩ := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o s0 s1 s2 s3 s4 s5 s6 s7 s8 s9 s10 s11 s12 s13 s14 s15 s16 s17
  have h' := h E K
  rw [← owns_unread c (ms0_0 t) (hs0_0 t) x0, ← owns_unread c (ms0_1 t) (hs0_1 t) x1, ← owns_unread c (ms0_2 t) (hs0_2 t) x2, ← owns_unread c (ms0_3 t) (hs0_3 t) x3, ← owns_unread c (ms0_4 t) (hs0_4 t) x4, ← owns_unread c (ms0_5 t) (hs0_5 t) x5, ← owns_unread c (ms0_6 t) (hs0_6 t) x6, ← owns_unread c (ms0_7 t) (hs0_7 t) x7, ← owns_unread c (ms0_8 t) (hs0_8 t) x8, ← owns_unread c (ms0_9 t) (hs0_9 t) x9, ← owns_unread c (ms0_10 t) (hs0_10 t) x10, ← owns_unread c (ms0_11 t) (hs0_11 t) x11, ← owns_unread c (ms0_12 t) (hs0_12 t) x12, ← owns_unread c (ms0_13 t) (hs0_13 t) o, ← owns_unread c scM0_0 (Memref.isWhole_whole _) s0, ← owns_unread c scM0_1 (Memref.isWhole_whole _) s1, ← owns_unread c scM0_2 (Memref.isWhole_whole _) s2, ← owns_unread c scM0_3 (Memref.isWhole_whole _) s3, ← owns_unread c scM0_4 (Memref.isWhole_whole _) s4, ← owns_unread c scM0_5 (Memref.isWhole_whole _) s5, ← owns_unread c scM0_6 (Memref.isWhole_whole _) s6, ← owns_unread c scM0_7 (Memref.isWhole_whole _) s7, ← owns_unread c scM0_8 (Memref.isWhole_whole _) s8, ← owns_unread c scM0_9 (Memref.isWhole_whole _) s9, ← owns_unread c scM0_10 (Memref.isWhole_whole _) s10, ← owns_unread c scM0_11 (Memref.isWhole_whole _) s11, ← owns_unread c scM0_12 (Memref.isWhole_whole _) s12, ← owns_unread c scM0_13 (Memref.isWhole_whole _) s13, ← owns_unread c scM0_14 (Memref.isWhole_whole _) s14, ← owns_unread c scM0_15 (Memref.isWhole_whole _) s15, ← owns_unread c scM0_16 (Memref.isWhole_whole _) s16, ← owns_unread c scM0_17 (Memref.isWhole_whole _) s17] at h'
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iapply (owns_intro _ _ _ _); iexact H14
  isplitl [H15]; · iexists _; iapply (owns_intro _ _ _ _); iexact H15
  isplitl [H16]; · iexists _; iapply (owns_intro _ _ _ _); iexact H16
  isplitl [H17]; · iexists _; iapply (owns_intro _ _ _ _); iexact H17
  isplitl [H18]; · iexists _; iapply (owns_intro _ _ _ _); iexact H18
  isplitl [H19]; · iexists _; iapply (owns_intro _ _ _ _); iexact H19
  isplitl [H20]; · iexists _; iapply (owns_intro _ _ _ _); iexact H20
  isplitl [H21]; · iexists _; iapply (owns_intro _ _ _ _); iexact H21
  isplitl [H22]; · iexists _; iapply (owns_intro _ _ _ _); iexact H22
  isplitl [H23]; · iexists _; iapply (owns_intro _ _ _ _); iexact H23
  isplitl [H24]; · iexists _; iapply (owns_intro _ _ _ _); iexact H24
  isplitl [H25]; · iexists _; iapply (owns_intro _ _ _ _); iexact H25
  isplitl [H26]; · iexists _; iapply (owns_intro _ _ _ _); iexact H26
  isplitl [H27]; · iexists _; iapply (owns_intro _ _ _ _); iexact H27
  isplitl [H28]; · iexists _; iapply (owns_intro _ _ _ _); iexact H28
  isplitl [H29]; · iexists _; iapply (owns_intro _ _ _ _); iexact H29
  isplitl [H30]; · iexists _; iapply (owns_intro _ _ _ _); iexact H30
  iexists _; iapply (owns_intro _ _ _ _); iexact H31

set_option maxHeartbeats 2000000 in
/-- The body at a point of case D. -/
theorem stepD (c : Dev nD) (t : Fin cfg0.N) (h0 : ¬cond0_0 (grid0.coords t)) (h1 : ¬cond0_1 (grid0.coords t)) (h2 : ¬cond0_2 (grid0.coords t)) (h3 : cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32)
    (E : Set ℕ) (K : PUnit → sProp 𝕄) :
    iprop(held c t x0 x1 x2 x3 x4 x5 x6 x7 x8 x9 x10 x11 x12 ∗ (held c t x0 x1 x2 x3 x4 x5 x6 x7 x8 x9 x10 x11 x12 -∗ K ⟨⟩)) ⊢ wp frame (wpE (defs₀ (F := F)) Variants.none c none) E (bodyAt0 t) K := by
  unfold held
  iintro ⟨⟨H0, H1, H2, H3, H4, H5, H6, H7, H8, H9, H10, H11, H12, ⟨%o, H13⟩, ⟨%s0, H14⟩, ⟨%s1, H15⟩, ⟨%s2, H16⟩, ⟨%s3, H17⟩, ⟨%s4, H18⟩, ⟨%s5, H19⟩, ⟨%s6, H20⟩, ⟨%s7, H21⟩, ⟨%s8, H22⟩, ⟨%s9, H23⟩, ⟨%s10, H24⟩, ⟨%s11, H25⟩, ⟨%s12, H26⟩, ⟨%s13, H27⟩, ⟨%s14, H28⟩, ⟨%s15, H29⟩, ⟨%s16, H30⟩, ⟨%s17, H31⟩⟩, Hk⟩
  obtain ⟨L0, h⟩ := runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o s0 s1 s2 s3 s4 s5 s6 s7 s8 s9 s10 s11 s12 s13 s14 s15 s16 s17
  have h' := h E K
  rw [← owns_unread c (ms0_0 t) (hs0_0 t) x0, ← owns_unread c (ms0_1 t) (hs0_1 t) x1, ← owns_unread c (ms0_2 t) (hs0_2 t) x2, ← owns_unread c (ms0_3 t) (hs0_3 t) x3, ← owns_unread c (ms0_4 t) (hs0_4 t) x4, ← owns_unread c (ms0_5 t) (hs0_5 t) x5, ← owns_unread c (ms0_6 t) (hs0_6 t) x6, ← owns_unread c (ms0_7 t) (hs0_7 t) x7, ← owns_unread c (ms0_8 t) (hs0_8 t) x8, ← owns_unread c (ms0_9 t) (hs0_9 t) x9, ← owns_unread c (ms0_10 t) (hs0_10 t) x10, ← owns_unread c (ms0_11 t) (hs0_11 t) x11, ← owns_unread c (ms0_12 t) (hs0_12 t) x12, ← owns_unread c (ms0_13 t) (hs0_13 t) o, ← owns_unread c scM0_0 (Memref.isWhole_whole _) s0, ← owns_unread c scM0_1 (Memref.isWhole_whole _) s1, ← owns_unread c scM0_2 (Memref.isWhole_whole _) s2, ← owns_unread c scM0_3 (Memref.isWhole_whole _) s3, ← owns_unread c scM0_4 (Memref.isWhole_whole _) s4, ← owns_unread c scM0_5 (Memref.isWhole_whole _) s5, ← owns_unread c scM0_6 (Memref.isWhole_whole _) s6, ← owns_unread c scM0_7 (Memref.isWhole_whole _) s7, ← owns_unread c scM0_8 (Memref.isWhole_whole _) s8, ← owns_unread c scM0_9 (Memref.isWhole_whole _) s9, ← owns_unread c scM0_10 (Memref.isWhole_whole _) s10, ← owns_unread c scM0_11 (Memref.isWhole_whole _) s11, ← owns_unread c scM0_12 (Memref.isWhole_whole _) s12, ← owns_unread c scM0_13 (Memref.isWhole_whole _) s13, ← owns_unread c scM0_14 (Memref.isWhole_whole _) s14, ← owns_unread c scM0_15 (Memref.isWhole_whole _) s15, ← owns_unread c scM0_16 (Memref.isWhole_whole _) s16, ← owns_unread c scM0_17 (Memref.isWhole_whole _) s17] at h'
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iapply (owns_intro _ _ _ _); iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iexists _; iexact H31

end Cert.Kernel.Gen

end
-- ==== Proof.KB.Frame.lean ====
/- The frame of the kernel: what the pipeline keeps, the body at every point, the launch. -/
module

public import proofs.«01_k».proof.Proof.KB.Step
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of which nothing is stated. -/
def forgets0 : Fin 14 → Bool := fun w => w.val == 13

/-- The proof data of the pipeline on core `c`: the arrays as the region finds them, each input's buffer left at its block, the output forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ t := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves and finds in each input's buffer: the window's block. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d))

/-! The body leaves each input's buffer at its block. -/

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

set_option maxHeartbeats 2000000 in
/-- The body at any point, from the theorem of its case. -/
theorem sound_body (c : Dev nD) (t : Fin cfg0.N) :
    bodyPre m c t ⊢ wp frame (wpE (defs₀ (F := F)) Variants.none c none) Set.univ (bodyAt0 t) (fun _ => bodyPost m c t) := by
  have hstep : ∀ K : PUnit → sProp 𝕄, iprop(held c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ∗ (held c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) -∗ K ⟨⟩))
      ⊢ wp frame (wpE (defs₀ (F := F)) Variants.none c none) Set.univ (bodyAt0 t) K := by
    intro K
    have hN : t.val < 26 := lt_of_lt_of_eq t.isLt (show cfg0.N = 26 from N_0)
    by_cases h1 : t.val < 16
    · have h3 : ¬cond0_3 (grid0.coords t) := fun h => absurd ((hcond0_3 t).mp h) (by omega)
      by_cases h0 : t.val % 26 = 0
      · exact stepA c t ((hcond0_0 t).mpr h0) ((hcond0_1 t).mpr h1) (fun h => absurd ((hcond0_2 t).mp h) (by omega)) h3 _ _ _ _ _ _ _ _ _ _ _ _ _ Set.univ K
      · by_cases h2 : t.val % 26 = 15
        · exact stepC c t (fun h => h0 ((hcond0_0 t).mp h)) ((hcond0_1 t).mpr h1) ((hcond0_2 t).mpr h2) h3 _ _ _ _ _ _ _ _ _ _ _ _ _ Set.univ K
        · exact stepB c t (fun h => h0 ((hcond0_0 t).mp h)) ((hcond0_1 t).mpr h1) (fun h => h2 ((hcond0_2 t).mp h)) h3 _ _ _ _ _ _ _ _ _ _ _ _ _ Set.univ K
    · exact stepD c t (fun h => absurd ((hcond0_0 t).mp h) (by omega)) (fun h => h1 ((hcond0_1 t).mp h))
        (fun h => absurd ((hcond0_2 t).mp h) (by omega)) ((hcond0_3 t).mpr (by omega)) _ _ _ _ _ _ _ _ _ _ _ _ _ Set.univ K
  refine BIBase.Entails.trans ?_ (hstep _)
  unfold bodyPre bodyPost held
  simp only [before0_0, before0_1, before0_2, before0_3, before0_4, before0_5, before0_6, before0_7, before0_8, before0_9, before0_10, before0_11, before0_12]
  rw [leaves0_0, leaves0_1, leaves0_2, leaves0_3, leaves0_4, leaves0_5, leaves0_6, leaves0_7, leaves0_8, leaves0_9, leaves0_10, leaves0_11, leaves0_12,
    show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15, HS16, HS17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
  isplitl [H0 H1 H2 H3 H4 H5 H6 H7 H8 H9 H10 H11 H12 H13 HS0 HS1 HS2 HS3 HS4 HS5 HS6 HS7 HS8 HS9 HS10 HS11 HS12 HS13 HS14 HS15 HS16 HS17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    iexact HS17
  iintro ⟨H0, H1, H2, H3, H4, H5, H6, H7, H8, H9, H10, H11, H12, H13, HS0, HS1, HS2, HS3, HS4, HS5, HS6, HS7, HS8, HS9, HS10, HS11, HS12, HS13, HS14, HS15, HS16, HS17⟩
  isplitl [HS0 HS1 HS2 HS3 HS4 HS5 HS6 HS7 HS8 HS9 HS10 HS11 HS12 HS13 HS14 HS15 HS16 HS17 Hg]
  · isplitl [HS0 HS1 HS2 HS3 HS4 HS5 HS6 HS7 HS8 HS9 HS10 HS11 HS12 HS13 HS14 HS15 HS16 HS17]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      iexact HS17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  exact Idealize.SL.BI.Entails.refl _

/-- The invariant after the last point gives back what the launch handed the region. -/
theorem hout (c : Dev nD) : (dats m 0 c).Φ (Fin.last cfg0.N) ⊢ Pipeline.ΦA spec0 c := by
  exact Idealize.SL.BI.Entails.refl _

set_option backward.isDefEq.respectTransparency.types false in
/-- The launch: every execution ends with the pipeline's arrays as its proof data say and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and ((θ_run defs _ _).mono (fun r (h : Pipeline.RDat.FramePost (cfgs 0) (fun c => (dats m 0 c).toRForget forgets0) (V m) r) c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      (Pipeline.RDat.FramePost.arr_in h c 4 rfl).trans ((A_eq m c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((A_eq m c 8).trans (V_main_arg8 m c)),
      (Pipeline.RDat.FramePost.arr_in h c 9 rfl).trans ((A_eq m c 9).trans (V_main_arg9 m c)),
      ((h c).2 main_arg10 (Pipeline.mem_restRefs_of main_arg10 (by decide) (by decide))).trans (V_main_arg10 m c),
      (Pipeline.RDat.FramePost.arr_in h c 11 rfl).trans ((A_eq m c 11).trans (V_main_arg11 m c)),
      ((h c).2 main_arg12 (Pipeline.mem_restRefs_of main_arg12 (by decide) (by decide))).trans (V_main_arg12 m c)⟩) (run_main m ρ))
    ((θ_run defs _ _).mono (fun _ h => h.2) (run_main_quiescent m ρ))

end Cert.Kernel.Gen

end
-- ==== Proof.KI.Base.lean ====
/- What the runs of the kernel's body share: its branch conditions over the grid, where the output window is idle,
   and the buffers it is run on. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 26 = 0 :=
  (fun t => by
    have ht : t.val < 26 := Nat.lt_of_lt_of_eq t.isLt N_0
    have e0 : (grid0.coords t 0).val = t.val / 26 % 1 := Pipeline.Grid.coords_val t 0 (by decide) rfl
    have e1 : (grid0.coords t 1).val = t.val / 1 % 26 := Pipeline.Grid.coords_val t 1 (by decide) rfl
    simp only [cond0_0, e0, e1]
    word_cmp
   : ∀ t : Fin grid0.N, cond0_0 (grid0.coords t) ↔ t.val % 26 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 15#32)) 0#32) = 1#1
/-- It holds at point 15 only — by arithmetic of the point. -/
theorem hcond0_2 : ∀ t : Fin cfg0.N, cond0_2 (grid0.coords t) ↔ t.val % 26 = 15 :=
  (fun t => by
    have ht : t.val < 26 := Nat.lt_of_lt_of_eq t.isLt N_0
    have e0 : (grid0.coords t 0).val = t.val / 26 % 1 := Pipeline.Grid.coords_val t 0 (by decide) rfl
    have e1 : (grid0.coords t 1).val = t.val / 1 % 26 := Pipeline.Grid.coords_val t 1 (by decide) rfl
    simp only [cond0_2, e0, e1]
    word_cmp
   : ∀ t : Fin grid0.N, cond0_2 (grid0.coords t) ↔ t.val % 26 = 15)

/-- The condition of the body's `scf.if` 3 (`k0_h4`), from the grid coordinates (the skeleton's scalar
    chain substituted). -/
abbrev cond0_3 (i : grid0.Coords) : Prop := k0_cond4 i = 1#1
/-- It holds at the points from point 16 on — decided over the grid. -/
theorem hcond0_3 : ∀ t : Fin cfg0.N, cond0_3 (grid0.coords t) ↔ 16 ≤ t.val :=
  (by decide +kernel : ∀ t : Fin grid0.N, cond0_3 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- At the points of case A the printed configuration (`Cfg.idle`) calls output 13 idle: the case stores nothing into it. -/
theorem idleAt0_13_A : ∀ t : Fin cfg0.N, cond0_0 (grid0.coords t) → cond0_1 (grid0.coords t) → ¬cond0_2 (grid0.coords t) → ¬cond0_3 (grid0.coords t) → cfg0.idle 13 (grid0.coords t) = true :=
  fun t h0 h1 h2 h3 => (by decide +kernel : ∀ t : Fin cfg0.N, conds0_A (grid0.coords t) → cfg0.idle 13 (grid0.coords t) = true) t ⟨h0, h1, h2, h3⟩
/-- At the points of case A the pipeline does not write output 13's block back. -/
theorem noFlush0_13_A : ∀ t : Fin cfg0.N, cond0_0 (grid0.coords t) → cond0_1 (grid0.coords t) → ¬cond0_2 (grid0.coords t) → ¬cond0_3 (grid0.coords t) → (cfg0.win 13).flush t = false :=
  fun t h0 h1 h2 h3 => (by decide +kernel : ∀ t : Fin cfg0.N, conds0_A (grid0.coords t) → (cfg0.win 13).flush t = false) t ⟨h0, h1, h2, h3⟩
/-- At the points of case B the printed configuration (`Cfg.idle`) calls output 13 idle: the case stores nothing into it. -/
theorem idleAt0_13_B : ∀ t : Fin cfg0.N, ¬cond0_0 (grid0.coords t) → cond0_1 (grid0.coords t) → ¬cond0_2 (grid0.coords t) → ¬cond0_3 (grid0.coords t) → cfg0.idle 13 (grid0.coords t) = true :=
  fun t h0 h1 h2 h3 => (by decide +kernel : ∀ t : Fin cfg0.N, conds0_B (grid0.coords t) → cfg0.idle 13 (grid0.coords t) = true) t ⟨h0, h1, h2, h3⟩
/-- At the points of case B the pipeline does not write output 13's block back. -/
theorem noFlush0_13_B : ∀ t : Fin cfg0.N, ¬cond0_0 (grid0.coords t) → cond0_1 (grid0.coords t) → ¬cond0_2 (grid0.coords t) → ¬cond0_3 (grid0.coords t) → (cfg0.win 13).flush t = false :=
  fun t h0 h1 h2 h3 => (by decide +kernel : ∀ t : Fin cfg0.N, conds0_B (grid0.coords t) → (cfg0.win 13).flush t = false) t ⟨h0, h1, h2, h3⟩
/-- At the points of case C the printed configuration (`Cfg.idle`) calls output 13 idle: the case stores nothing into it. -/
theorem idleAt0_13_C : ∀ t : Fin cfg0.N, ¬cond0_0 (grid0.coords t) → cond0_1 (grid0.coords t) → cond0_2 (grid0.coords t) → ¬cond0_3 (grid0.coords t) → cfg0.idle 13 (grid0.coords t) = true :=
  fun t h0 h1 h2 h3 => (by decide +kernel : ∀ t : Fin cfg0.N, conds0_C (grid0.coords t) → cfg0.idle 13 (grid0.coords t) = true) t ⟨h0, h1, h2, h3⟩
/-- At the points of case C the pipeline does not write output 13's block back. -/
theorem noFlush0_13_C : ∀ t : Fin cfg0.N, ¬cond0_0 (grid0.coords t) → cond0_1 (grid0.coords t) → cond0_2 (grid0.coords t) → ¬cond0_3 (grid0.coords t) → (cfg0.win 13).flush t = false :=
  fun t h0 h1 h2 h3 => (by decide +kernel : ∀ t : Fin cfg0.N, conds0_C (grid0.coords t) → (cfg0.win 13).flush t = false) t ⟨h0, h1, h2, h3⟩
/-- At the points of case D the printed configuration (`Cfg.idle`) calls output 13 live: the case stores into it. -/
theorem liveAt0_13_D : ∀ t : Fin cfg0.N, ¬cond0_0 (grid0.coords t) → ¬cond0_1 (grid0.coords t) → cond0_3 (grid0.coords t) → cfg0.idle 13 (grid0.coords t) = false := by decide +kernel

/-! ## The kernel body on any staging memrefs: a subtype the run finds -/

/-- One staging buffer of output window 13, through which its contents are stated (`View.read_writes_of_cover`: the
    choice does not matter). -/
abbrev VO0_13 : View sig .tc .vmem S16x3200 .f32 := (Memref.whole cc0_stg13_0 : Memref sig .tc .vmem S16x3200 .f32).view
/-- Each window's current staging memref at point `t`, spelled as the pipeline passes it (`bodyAt0`), and its wholeness. -/
abbrev ms0_0 (t : Fin cfg0.N) : Memref sig .tc .vmem S1x16x1x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x3200 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3200 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x3200 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2x2048x256 .f32 := Memref.whole cc0_scratch0
abbrev scM0_1 : Memref sig .tc .vmem S16x256 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x256 .f32 := Memref.whole cc0_scratch4
abbrev scM0_5 : Memref sig .tc .vmem S256x256 .f32 := Memref.whole cc0_scratch5
abbrev scM0_6 : Memref sig .tc .vmem S256x256 .f32 := Memref.whole cc0_scratch6
abbrev scM0_7 : Memref sig .tc .vmem S256x256 .f32 := Memref.whole cc0_scratch7
abbrev scM0_8 : Memref sig .tc .vmem S256x256 .f32 := Memref.whole cc0_scratch8
abbrev scM0_9 : Memref sig .tc .vmem S256x256 .f32 := Memref.whole cc0_scratch9
abbrev scM0_10 : Memref sig .tc .vmem S256x256 .f32 := Memref.whole cc0_scratch10
abbrev scM0_11 : Memref sig .tc .vmem S256x256 .f32 := Memref.whole cc0_scratch11
abbrev scM0_12 : Memref sig .tc .vmem S256x256 .f32 := Memref.whole cc0_scratch12
abbrev scM0_13 : Memref sig .tc .vmem S256x256 .f32 := Memref.whole cc0_scratch13
abbrev scM0_14 : Memref sig .tc .vmem S256x256 .f32 := Memref.whole cc0_scratch14
abbrev scM0_15 : Memref sig .tc .vmem S256x256 .f32 := Memref.whole cc0_scratch15
abbrev scM0_16 : Memref sig .tc .vmem S256x256 .f32 := Memref.whole cc0_scratch16
abbrev scM0_17 : Memref sig .tc .vmem S256x256 .f32 := Memref.whole cc0_scratch17

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, scM0_14, scM0_15, scM0_16, scM0_17, owns_whole]; try rfl

end Cert.KernelIdeal.Gen

end
-- ==== Proof.KI.Val.lean ====
/- What the kernel's body computes, as functions of what it reads: the key block of a chunk, one head's step of the
   memory, the read-out rows and the logits of a tile. -/
module

public import proofs.«01_k».proof.Proof.KI.Base
public import Idealize.ShloMosaic.Lib.VecWindow
public import Idealize.ShloMosaic.Lib.Pipeline.Value

@[expose] public section

noncomputable section

namespace Cert.KernelIdeal.Gen

open Idealize.ShloMosaic Idealize.ShloMosaic.TcCoe

variable {F : FTy → Type} [FloatOps F]

/-- The keys of one chunk of embeddings: feed-forward network, residual, layer norm, key projection. -/
def keyBlock (e : Vec F S1x16x1x128x256 .f32) (w1 : Vec F S256x512 .f32) (b1 : Vec F S1x512 .f32)
    (w2 : Vec F S512x256 .f32) (b2 g b : Vec F S1x256 .f32) (kp : Vec F S256x256 .f32) : FVec F S1x2048x256 .f32 :=
  k0_pay29 (k0_pay27 e w1 b1 w2 b2) (k0_pay28 e w1 b1 w2 b2) g b kp

/-- The two slots of the key buffer lie inside it. -/
theorem slot_inb (o : Fin 2) : ∀ a, (![o.val, 0, 0] : Fin 3 → ℕ) a + S1x2048x256.size a ≤ S2x2048x256.size a := by
  revert o; decide

/-- The slot that the chunk of number `n` uses. -/
def slotOf (n : ℕ) : Fin 2 := ⟨n % 2, Nat.mod_lt _ two_pos⟩

/-- Slot `o` of the key buffer. -/
def slotRead (kb : Vec F S2x2048x256 .f32) (o : Fin 2) : Vec F S1x2048x256 .f32 :=
  VecWindow.window kb ![o.val, 0, 0] S1x2048x256.size (slot_inb o)

/-- The key buffer with `w` put into slot `o`. -/
def slotPut (kb : Vec F S2x2048x256 .f32) (o : Fin 2) (w : Vec F S1x2048x256 .f32) : Vec F S2x2048x256 .f32 :=
  VecWindow.put kb ![o.val, 0, 0] S1x2048x256.size w

/-- Each head's rows lie inside the block. -/
theorem head_slices (g : Fin 16) : S2048x256.Slices ![128 * g.val, 0] S128x256 := by
  revert g; decide

/-- Head `g`'s 128 rows of a key block. -/
def headRows (g : Fin 16) (blk : Vec F S1x2048x256 .f32) : FVec F S128x256 .f32 :=
  extractStridedSlice S128x256 ![128 * g.val, 0] (shapeCast S2048x256 blk shapeCasts_S1x2048x256_S2048x256) (head_slices g)

/-- The rows `k` with those the chunk of number `c` does not use replaced by zero. -/
def maskRows (c : BitVec 32) (k : FVec F S128x256 .f32) : FVec F S128x256 .f32 :=
  select (broadcastTo S128x256 (shapeCast S128x1 (k0_pay30 c) shapeCasts_S128x1_S128x1) broadcasts_S128x1_S128x256) k
    (broadcast S128x256 (Scalar.ofBits .f32 0x00000000#32))

/-- Each row divided by its Euclidean norm, the norm kept above 1e-12. -/
def unitRows (km : FVec F S128x256 .f32) : FVec F S128x256 .f32 :=
  divf km (broadcastTo S128x256
    (maximumf (sqrt (shapeCast S128x1 (multiReduction .add [1] S128 (mulf km km) 0x00000000#32 reduces_S128x256_S128 (.inl rfl) rfl)
        shapeCasts_S128_S128x1))
      (broadcast S128x1 (Scalar.ofBits .f32 0x2B8CBCCC#32))) broadcasts_S128x1_S128x256)

/-- The strictly lower part of the products of the rows with each other. -/
def lowerGram (wb : FVec F S128x256 .bf16) : FVec F S128x128 .bf16 :=
  truncf .bf16 (select (cmpi .sgt (iota .tc S128x128 32 [0] iota_S128x128_d0_w32) (iota .tc S128x128 32 [1] iota_S128x128_d1_w32))
    (matmul dot_S128x256_S128x256_S128x128_1_1_0_0_n_n none wb wb (constant S128x128 .f32 0x00000000#32))
    (broadcast S128x128 (Scalar.ofBits .f32 0x00000000#32))) bitsLt_bf16_f32

/-- One Newton step towards the inverse of the unit matrix plus `ab`. -/
def newton (ab : FVec F S128x128 .bf16) (t : FVec F S128x128 .f32) : FVec F S128x128 .f32 :=
  addf t (matmul dot_S128x128_S128x128_S128x128_1_0_0_1_n_n none (truncf .bf16 t bitsLt_bf16_f32)
    (truncf .bf16 (subf (subf k0_pay31 t)
      (matmul dot_S128x128_S128x128_S128x128_1_0_0_1_n_n none ab (truncf .bf16 t bitsLt_bf16_f32) (constant S128x128 .f32 0x00000000#32)))
      bitsLt_bf16_f32) (constant S128x128 .f32 0x00000000#32))

/-- Six Newton steps from the unit matrix minus `ab`. -/
def invLower (ab : FVec F S128x128 .bf16) : FVec F S128x128 .f32 :=
  newton ab (newton ab (newton ab (newton ab (newton ab (newton ab (subf k0_pay31 (extf .f32 ab bitsLt_bf16_f32)))))))

/-- The update of a memory `M` by the rows `km` and their unit rows `wb`, through the inverse `T`. -/
def memUpdate (km : FVec F S128x256 .f32) (wb : FVec F S128x256 .bf16) (T : FVec F S128x128 .f32) (M : Vec F S256x256 .f32) :
    FVec F S256x256 .f32 :=
  addf M (matmul dot_S128x256_S128x256_S256x256_0_0_1_1_n_n none
    (truncf .bf16 (matmul dot_S128x128_S128x256_S128x256_1_0_0_1_n_n none (truncf .bf16 T bitsLt_bf16_f32)
      (truncf .bf16 (subf km (matmul dot_S128x256_S256x256_S128x256_1_1_0_0_n_n none wb (truncf .bf16 M bitsLt_bf16_f32)
        (constant S128x256 .f32 0x00000000#32))) bitsLt_bf16_f32) (constant S128x256 .f32 0x00000000#32)) bitsLt_bf16_f32)
    wb (constant S256x256 .f32 0x00000000#32))

/-- One head's step over the chunk of number `c`: its rows `k` written into the memory `M`. -/
def headStep (c : BitVec 32) (k : FVec F S128x256 .f32) (M : Vec F S256x256 .f32) : FVec F S256x256 .f32 :=
  memUpdate (maskRows c k) (truncf .bf16 (unitRows (maskRows c k)) bitsLt_bf16_f32)
    (invLower (lowerGram (truncf .bf16 (unitRows (maskRows c k)) bitsLt_bf16_f32))) M

/-- The memory before the first chunk: zero. -/
def zeroMem : FVec F S256x256 .f32 := broadcast S256x256 (Scalar.ofBits .f32 0x00000000#32)

/-- A load of the whole of a whole buffer reads what it holds. -/
theorem readAt_all {s : Shape} {e : EltTy} (m : Memref sig .tc .vmem s e) (h : m.IsWhole) (x : s.Idx → Elt F e) {off : Fin s.rank → ℕ}
    (inb : ∀ a, off a + s.size a ≤ s.size a) :
    m.view.readAt (Elt F) (Rect.unit (s := s) off s.size inb).toLoadRect (h.unread x) = x :=
  (View.readAt_full _ _ _).trans (h.read_unread _)

/-- A load of one slot of the key buffer. -/
theorem readAt_slot (m : Memref sig .tc .vmem S2x2048x256 .f32) (h : m.IsWhole) (x : Vec F S2x2048x256 .f32) {off : Fin 3 → ℕ}
    (inb : ∀ a, off a + S1x2048x256.size a ≤ S2x2048x256.size a) (o : Fin 2) (hoff : off = ![o.val, 0, 0]) :
    m.view.readAt (Elt F) (Rect.unit (s := S2x2048x256) off S1x2048x256.size inb).toLoadRect (h.unread x) = slotRead x o := by
  subst hoff
  show VecWindow.window (m.view.read (Elt F) (h.unread x)) ![o.val, 0, 0] S1x2048x256.size (slot_inb o) = _
  rw [h.read_unread]; rfl

/-- A load of a slot of the key buffer just after a store into that slot. -/
theorem readAt_slot_put (m : Memref sig .tc .vmem S2x2048x256 .f32) (f : m.view.ty.Contents (Elt F)) {off off' : Fin 3 → ℕ}
    (inb : ∀ a, off a + S1x2048x256.size a ≤ S2x2048x256.size a) (inb' : ∀ a, off' a + S1x2048x256.size a ≤ S2x2048x256.size a)
    (w w' : Vec F S1x2048x256 .f32) (h : off = off') (hw : w = w') :
    m.view.readAt (Elt F) (Rect.unit (s := S2x2048x256) off S1x2048x256.size inb).toLoadRect
      (m.view.writes (Elt F) f [⟨Rect.unit (s := S2x2048x256) off' S1x2048x256.size inb', w⟩]) = w' := by
  subst h; subst hw
  funext y
  exact View.read_writes_cons_unit_of_mem m.view f inb' w [] _ y rfl fun a => by
    show off a + 1 * (y a).val = _; omega

/-- What a store into a slot leaves. -/
theorem slotPut_of (m : Memref sig .tc .vmem S2x2048x256 .f32) (h : m.IsWhole) (x : Vec F S2x2048x256 .f32) {off : Fin 3 → ℕ}
    (inb : ∀ a, off a + S1x2048x256.size a ≤ S2x2048x256.size a) (o : Fin 2) (hoff : off = ![o.val, 0, 0])
    {w w' : Vec F S1x2048x256 .f32} (hw : w = w') :
    m.view.read (Elt F) (m.view.writes (Elt F) (h.unread x) [⟨Rect.unit (s := S2x2048x256) off S1x2048x256.size inb, w⟩])
      = slotPut x o w' := by
  subst hw
  refine (View.read_writes_cons_put m.view (h.unread x) inb w [] hoff).trans ?_
  rw [View.writes_nil, h.read_unread]; rfl

/-- What a store into a slot leaves over an earlier one. -/
theorem slotPut_of₂ (m : Memref sig .tc .vmem S2x2048x256 .f32) (h : m.IsWhole) (x : Vec F S2x2048x256 .f32) {off off₁ : Fin 3 → ℕ}
    (inb : ∀ a, off a + S1x2048x256.size a ≤ S2x2048x256.size a) (inb₁ : ∀ a, off₁ a + S1x2048x256.size a ≤ S2x2048x256.size a)
    (o o₁ : Fin 2) (hoff : off = ![o.val, 0, 0]) (hoff₁ : off₁ = ![o₁.val, 0, 0])
    {w w' w₁ w₁' : Vec F S1x2048x256 .f32} (hw : w = w') (hw₁ : w₁ = w₁') :
    m.view.read (Elt F) (m.view.writes (Elt F) (h.unread x) [⟨Rect.unit (s := S2x2048x256) off S1x2048x256.size inb, w⟩,
        ⟨Rect.unit (s := S2x2048x256) off₁ S1x2048x256.size inb₁, w₁⟩])
      = slotPut (slotPut x o₁ w₁') o w' := by
  subst hw
  refine (View.read_writes_cons_put m.view (h.unread x) inb w _ hoff).trans ?_
  rw [slotPut_of m h x inb₁ o₁ hoff₁ hw₁]; rfl

/-- The condition of the first point holds at number 0 only. -/
theorem first_point : ∀ i : grid0.Coords, cond0_0 i → (i 1).val = 0 := by decide +kernel

/-- A load of the whole of a buffer after a store of the whole of it. -/
theorem readCov_all {s : Shape} (m : Memref sig .tc .vmem s .f32) {off off' : Fin s.rank → ℕ} (inb : ∀ a, off a + s.size a ≤ s.size a)
    (inb' : ∀ a, off' a + s.size a ≤ s.size a) (w : Vec F s .f32) :
    m.view.readCov (Val := Elt F) [⟨Rect.unit (s := s) off' s.size inb', w⟩] (Rect.unit (s := s) off s.size inb).toLoadRect = w :=
  View.readCov_full m.view inb inb' w []

/-- A load of a memory just after it was set to zero. -/
theorem readCov_zero (m : Memref sig .tc .vmem S256x256 .f32) {off off' : Fin 2 → ℕ} (inb : ∀ a, off a + S256x256.size a ≤ S256x256.size a)
    (inb' : ∀ a, off' a + S256x256.size a ≤ S256x256.size a) :
    m.view.readCov (Val := Elt F) [⟨Rect.unit (s := S256x256) off' S256x256.size inb',
        shapeCast S256x256 (zeroMem (F := F)) shapeCasts_S256x256_S256x256⟩] (Rect.unit (s := S256x256) off S256x256.size inb).toLoadRect
      = zeroMem := by
  rw [shapeCast_self]; exact readCov_all m inb inb' _

/-- The key block of loads is the key block of what they read. -/
theorem keyBlock_of {e e' : Vec F S1x16x1x128x256 .f32} {w1 w1' : Vec F S256x512 .f32} {b1 b1' : Vec F S1x512 .f32}
    {w2 w2' : Vec F S512x256 .f32} {b2 g b b2' g' b' : Vec F S1x256 .f32} {kp kp' : Vec F S256x256 .f32} {y : FVec F S1x2048x256 .f32}
    (he : e' = e) (h1 : w1' = w1) (h2 : b1' = b1) (h3 : w2' = w2) (h4 : b2' = b2) (h5 : g' = g) (h6 : b' = b) (h7 : kp' = kp)
    (h : y = keyBlock e' w1' b1' w2' b2' g' b' kp') : y = keyBlock e w1 b1 w2 b2 g b kp := by
  subst he h1 h2 h3 h4 h5 h6 h7; exact h

/-- A stored memory, once its value is one head's step over loads of the key buffer and of the memory before. -/
theorem headStep_of {c : BitVec 32} {g : Fin 16} {kb' blk : Vec F S1x2048x256 .f32} {M' M y : Vec F S256x256 .f32}
    (hr : kb' = blk) (hm : M' = M) (h : y = shapeCast S256x256 (headStep c (headRows g kb') M') shapeCasts_S256x256_S256x256) :
    y = headStep c (headRows g blk) M := by
  rw [h, hr, hm, shapeCast_self]

/-- What one head reads out of its memory with the chunk's last row. -/
def readRow (k : FVec F S128x256 .f32) (M : FVec F S256x256 .f32) : FVec F S1x256 .f32 :=
  matmul dot_S1x256_S256x256_S1x256_1_1_0_0_n_n none (extractStridedSlice S1x256 ![127, 0] k slices_S128x256_o127_0_S1x256) M
    (constant S1x256 .f32 0x00000000#32)

/-- The read-out rows of the sixteen heads, projected. -/
def readOut (k : Fin 16 → FVec F S128x256 .f32) (M : Fin 16 → FVec F S256x256 .f32) (rp : Vec F S256x256 .f32) (rb : Vec F S1x256 .f32) :
    FVec F S16x256 .f32 :=
  k0_pay8 (k0_pay25 (k 0) (k 1) (k 2) (k 3) (k 4) (k 5) (k 6) (k 7) (k 8) (k 9) (k 10) (k 11) (k 12) (k 13) (k 14) (k 15)
    (M 0) (M 1) (M 2) (M 3) (M 4) (M 5) (M 6) (M 7) (M 8) (M 9) (M 10) (M 11) (M 12) (M 13) (M 14) (M 15) rp rb)

/-- Two lists of sixteen are equal when their entries are. -/
theorem vec16 {α : Type} {a0 b0 a1 b1 a2 b2 a3 b3 a4 b4 a5 b5 a6 b6 a7 b7 a8 b8 a9 b9 a10 b10 a11 b11 a12 b12 a13 b13 a14 b14 a15 b15 : α}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    ![a0, a1, a2, a3, a4, a5, a6, a7, a8, a9, a10, a11, a12, a13, a14, a15] = ![b0, b1, b2, b3, b4, b5, b6, b7, b8, b9, b10, b11, b12, b13, b14, b15] := by
  subst h0 h1 h2 h3 h4 h5 h6 h7 h8 h9 h10 h11 h12 h13 h14 h15; rfl

/-- The stored read-out rows, once they are the read-out over loads. -/
theorem readOut_of {c : BitVec 32} {kb' blk : Vec F S1x2048x256 .f32} {M' M : Fin 16 → Vec F S256x256 .f32} {rp rp' : Vec F S256x256 .f32}
    {rb rb' : Vec F S1x256 .f32} {y : FVec F S16x256 .f32} (hr : kb' = blk) (hm : M' = M) (hp : rp' = rp) (hb : rb' = rb)
    (h : y = readOut (fun g => headRows g kb') (fun g => headStep c (headRows g kb') (M' g)) rp' rb') :
    y = readOut (fun g => headRows g blk) (fun g => headStep c (headRows g blk) (M g)) rp rb := by
  subst hr hm hp hb; exact h

end Cert.KernelIdeal.Gen

end
-- ==== Proof.KI.RunA.lean ====
/- The whole body of the kernel run at the first point (case A). -/
module

public import proofs.«01_k».proof.Proof.KI.Val

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the first point the body, run on whole buffers holding `x0` … `x31`, keeps its inputs and leaves in the output window,
    the key buffer, the read-out rows and the sixteen memories what it stored there (`L0` … `L18`, last store first,
    found by the run; none where it stores nothing). -/
theorem runA (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : cond0_0 i) (hc1 : cond0_1 i) (hc2 : ¬cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      (arg16.view.read (Elt F) (arg16.view.writes (Elt F) (harg16.unread x14) L1) = slotPut (slotPut x14 0 (keyBlock x0 x2 x3 x4 x5 x6 x7 x8)) 1 (keyBlock x1 x2 x3 x4 x5 x6 x7 x8)) ∧
      (arg18.view.read (Elt F) (arg18.view.writes (Elt F) (harg18.unread x16) L3) = headStep (BitVec.ofNat 32 (i 1).val) (headRows 0 (keyBlock x0 x2 x3 x4 x5 x6 x7 x8)) zeroMem) ∧
      (arg19.view.read (Elt F) (arg19.view.writes (Elt F) (harg19.unread x17) L4) = headStep (BitVec.ofNat 32 (i 1).val) (headRows 1 (keyBlock x0 x2 x3 x4 x5 x6 x7 x8)) zeroMem) ∧
      (arg20.view.read (Elt F) (arg20.view.writes (Elt F) (harg20.unread x18) L5) = headStep (BitVec.ofNat 32 (i 1).val) (headRows 2 (keyBlock x0 x2 x3 x4 x5 x6 x7 x8)) zeroMem) ∧
      (arg21.view.read (Elt F) (arg21.view.writes (Elt F) (harg21.unread x19) L6) = headStep (BitVec.ofNat 32 (i 1).val) (headRows 3 (keyBlock x0 x2 x3 x4 x5 x6 x7 x8)) zeroMem) ∧
      (arg22.view.read (Elt F) (arg22.view.writes (Elt F) (harg22.unread x20) L7) = headStep (BitVec.ofNat 32 (i 1).val) (headRows 4 (keyBlock x0 x2 x3 x4 x5 x6 x7 x8)) zeroMem) ∧
      (arg23.view.read (Elt F) (arg23.view.writes (Elt F) (harg23.unread x21) L8) = headStep (BitVec.ofNat 32 (i 1).val) (headRows 5 (keyBlock x0 x2 x3 x4 x5 x6 x7 x8)) zeroMem) ∧
      (arg24.view.read (Elt F) (arg24.view.writes (Elt F) (harg24.unread x22) L9) = headStep (BitVec.ofNat 32 (i 1).val) (headRows 6 (keyBlock x0 x2 x3 x4 x5 x6 x7 x8)) zeroMem) ∧
      (arg25.view.read (Elt F) (arg25.view.writes (Elt F) (harg25.unread x23) L10) = headStep (BitVec.ofNat 32 (i 1).val) (headRows 7 (keyBlock x0 x2 x3 x4 x5 x6 x7 x8)) zeroMem) ∧
      (arg26.view.read (Elt F) (arg26.view.writes (Elt F) (harg26.unread x24) L11) = headStep (BitVec.ofNat 32 (i 1).val) (headRows 8 (keyBlock x0 x2 x3 x4 x5 x6 x7 x8)) zeroMem) ∧
      (arg27.view.read (Elt F) (arg27.view.writes (Elt F) (harg27.unread x25) L12) = headStep (BitVec.ofNat 32 (i 1).val) (headRows 9 (keyBlock x0 x2 x3 x4 x5 x6 x7 x8)) zeroMem) ∧
      (arg28.view.read (Elt F) (arg28.view.writes (Elt F) (harg28.unread x26) L13) = headStep (BitVec.ofNat 32 (i 1).val) (headRows 10 (keyBlock x0 x2 x3 x4 x5 x6 x7 x8)) zeroMem) ∧
      (arg29.view.read (Elt F) (arg29.view.writes (Elt F) (harg29.unread x27) L14) = headStep (BitVec.ofNat 32 (i 1).val) (headRows 11 (keyBlock x0 x2 x3 x4 x5 x6 x7 x8)) zeroMem) ∧
      (arg30.view.read (Elt F) (arg30.view.writes (Elt F) (harg30.unread x28) L15) = headStep (BitVec.ofNat 32 (i 1).val) (headRows 12 (keyBlock x0 x2 x3 x4 x5 x6 x7 x8)) zeroMem) ∧
      (arg31.view.read (Elt F) (arg31.view.writes (Elt F) (harg31.unread x29) L16) = headStep (BitVec.ofNat 32 (i 1).val) (headRows 13 (keyBlock x0 x2 x3 x4 x5 x6 x7 x8)) zeroMem) ∧
      (arg32.view.read (Elt F) (arg32.view.writes (Elt F) (harg32.unread x30) L17) = headStep (BitVec.ofNat 32 (i 1).val) (headRows 14 (keyBlock x0 x2 x3 x4 x5 x6 x7 x8)) zeroMem) ∧
      (arg33.view.read (Elt F) (arg33.view.writes (Elt F) (harg33.unread x31) L18) = headStep (BitVec.ofNat 32 (i 1).val) (headRows 15 (keyBlock x0 x2 x3 x4 x5 x6 x7 x8)) zeroMem) ∧
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} harg17.unread x15) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  have hi : (i 1).val = 0 := first_point i hc0
  have hr := readAt_slot_put arg16 (harg16.unread x14) (k0_off1_inb i hc1) (slot_inb 0) _ (keyBlock x0 x2 x3 x4 x5 x6 x7 x8) ((k0_off1_eq i).trans (by rw [hi]; rfl)) (keyBlock_of (readAt_all (off := ![0, 0, 0, 0, 0]) arg2 harg2 x0 (by decide)) (readAt_all (off := ![0, 0]) arg4 harg4 x2 (by decide)) (readAt_all (off := ![0, 0]) arg5 harg5 x3 (by decide)) (readAt_all (off := ![0, 0]) arg6 harg6 x4 (by decide)) (readAt_all (off := ![0, 0]) arg7 harg7 x5 (by decide)) (readAt_all (off := ![0, 0]) arg8 harg8 x6 (by decide)) (readAt_all (off := ![0, 0]) arg9 harg9 x7 (by decide)) (readAt_all (off := ![0, 0]) arg10 harg10 x8 (by decide)) rfl)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part1_eq_skeleton, k0_part2_eq_skeleton, k0_part3_eq_skeleton, k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · exact slotPut_of₂ arg16 harg16 x14 (k0_off2_inb i hc1) (slot_inb 0) 1 0 ((k0_off2_eq i).trans (by rw [hi]; rfl)) rfl (keyBlock_of (readAt_all (off := ![0, 0, 0, 0, 0]) arg3 harg3 x1 (by decide)) (readAt_all (off := ![0, 0]) arg4 harg4 x2 (by decide)) (readAt_all (off := ![0, 0]) arg5 harg5 x3 (by decide)) (readAt_all (off := ![0, 0]) arg6 harg6 x4 (by decide)) (readAt_all (off := ![0, 0]) arg7 harg7 x5 (by decide)) (readAt_all (off := ![0, 0]) arg8 harg8 x6 (by decide)) (readAt_all (off := ![0, 0]) arg9 harg9 x7 (by decide)) (readAt_all (off := ![0, 0]) arg10 harg10 x8 (by decide)) rfl) (keyBlock_of (readAt_all (off := ![0, 0, 0, 0, 0]) arg2 harg2 x0 (by decide)) (readAt_all (off := ![0, 0]) arg4 harg4 x2 (by decide)) (readAt_all (off := ![0, 0]) arg5 harg5 x3 (by decide)) (readAt_all (off := ![0, 0]) arg6 harg6 x4 (by decide)) (readAt_all (off := ![0, 0]) arg7 harg7 x5 (by decide)) (readAt_all (off := ![0, 0]) arg8 harg8 x6 (by decide)) (readAt_all (off := ![0, 0]) arg9 harg9 x7 (by decide)) (readAt_all (off := ![0, 0]) arg10 harg10 x8 (by decide)) rfl)
  · exact (View.read_writes_full _ _ _ _ _).trans (headStep_of rfl (readCov_zero arg18 (off := ![0, 0]) (off' := ![0, 0]) (by decide) (by decide)) rfl)
  · exact (View.read_writes_full _ _ _ _ _).trans (headStep_of rfl (readCov_zero arg19 (off := ![0, 0]) (off' := ![0, 0]) (by decide) (by decide)) rfl)
  · exact (View.read_writes_full _ _ _ _ _).trans (headStep_of rfl (readCov_zero arg20 (off := ![0, 0]) (off' := ![0, 0]) (by decide) (by decide)) rfl)
  · exact (View.read_writes_full _ _ _ _ _).trans (headStep_of rfl (readCov_zero arg21 (off := ![0, 0]) (off' := ![0, 0]) (by decide) (by decide)) rfl)
  · exact (View.read_writes_full _ _ _ _ _).trans (headStep_of rfl (readCov_zero arg22 (off := ![0, 0]) (off' := ![0, 0]) (by decide) (by decide)) rfl)
  · exact (View.read_writes_full _ _ _ _ _).trans (headStep_of rfl (readCov_zero arg23 (off := ![0, 0]) (off' := ![0, 0]) (by decide) (by decide)) rfl)
  · exact (View.read_writes_full _ _ _ _ _).trans (headStep_of rfl (readCov_zero arg24 (off := ![0, 0]) (off' := ![0, 0]) (by decide) (by decide)) rfl)
  · exact (View.read_writes_full _ _ _ _ _).trans (headStep_of rfl (readCov_zero arg25 (off := ![0, 0]) (off' := ![0, 0]) (by decide) (by decide)) rfl)
  · exact (View.read_writes_full _ _ _ _ _).trans (headStep_of rfl (readCov_zero arg26 (off := ![0, 0]) (off' := ![0, 0]) (by decide) (by decide)) rfl)
  · exact (View.read_writes_full _ _ _ _ _).trans (headStep_of rfl (readCov_zero arg27 (off := ![0, 0]) (off' := ![0, 0]) (by decide) (by decide)) rfl)
  · exact (View.read_writes_full _ _ _ _ _).trans (headStep_of rfl (readCov_zero arg28 (off := ![0, 0]) (off' := ![0, 0]) (by decide) (by decide)) rfl)
  · exact (View.read_writes_full _ _ _ _ _).trans (headStep_of rfl (readCov_zero arg29 (off := ![0, 0]) (off' := ![0, 0]) (by decide) (by decide)) rfl)
  · exact (View.read_writes_full _ _ _ _ _).trans (headStep_of rfl (readCov_zero arg30 (off := ![0, 0]) (off' := ![0, 0]) (by decide) (by decide)) rfl)
  · exact (View.read_writes_full _ _ _ _ _).trans (headStep_of rfl (readCov_zero arg31 (off := ![0, 0]) (off' := ![0, 0]) (by decide) (by decide)) rfl)
  · exact (View.read_writes_full _ _ _ _ _).trans (headStep_of rfl (readCov_zero arg32 (off := ![0, 0]) (off' := ![0, 0]) (by decide) (by decide)) rfl)
  · exact (View.read_writes_full _ _ _ _ _).trans (headStep_of rfl (readCov_zero arg33 (off := ![0, 0]) (off' := ![0, 0]) (by decide) (by decide)) rfl)

end Cert.KernelIdeal.Gen

end
-- ==== Proof.KI.RunB.lean ====
/- The whole body of the kernel run at the points 1 to 14 (case B). -/
module

public import proofs.«01_k».proof.Proof.KI.Val

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the points 1 to 14 the body, run on whole buffers holding `x0` … `x31`, keeps its inputs and leaves in the output window,
    the key buffer, the read-out rows and the sixteen memories what it stored there (`L0` … `L18`, last store first,
    found by the run; none where it stores nothing). -/
theorem runB (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : ¬cond0_0 i) (hc1 : cond0_1 i) (hc2 : ¬cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      (arg16.view.read (Elt F) (arg16.view.writes (Elt F) (harg16.unread x14) L1) = slotPut x14 (slotOf ((i 1).val + 1)) (keyBlock x1 x2 x3 x4 x5 x6 x7 x8)) ∧
      (arg18.view.read (Elt F) (arg18.view.writes (Elt F) (harg18.unread x16) L3) = headStep (BitVec.ofNat 32 (i 1).val) (headRows 0 (slotRead x14 (slotOf (i 1).val))) x16) ∧
      (arg19.view.read (Elt F) (arg19.view.writes (Elt F) (harg19.unread x17) L4) = headStep (BitVec.ofNat 32 (i 1).val) (headRows 1 (slotRead x14 (slotOf (i 1).val))) x17) ∧
      (arg20.view.read (Elt F) (arg20.view.writes (Elt F) (harg20.unread x18) L5) = headStep (BitVec.ofNat 32 (i 1).val) (headRows 2 (slotRead x14 (slotOf (i 1).val))) x18) ∧
      (arg21.view.read (Elt F) (arg21.view.writes (Elt F) (harg21.unread x19) L6) = headStep (BitVec.ofNat 32 (i 1).val) (headRows 3 (slotRead x14 (slotOf (i 1).val))) x19) ∧
      (arg22.view.read (Elt F) (arg22.view.writes (Elt F) (harg22.unread x20) L7) = headStep (BitVec.ofNat 32 (i 1).val) (headRows 4 (slotRead x14 (slotOf (i 1).val))) x20) ∧
      (arg23.view.read (Elt F) (arg23.view.writes (Elt F) (harg23.unread x21) L8) = headStep (BitVec.ofNat 32 (i 1).val) (headRows 5 (slotRead x14 (slotOf (i 1).val))) x21) ∧
      (arg24.view.read (Elt F) (arg24.view.writes (Elt F) (harg24.unread x22) L9) = headStep (BitVec.ofNat 32 (i 1).val) (headRows 6 (slotRead x14 (slotOf (i 1).val))) x22) ∧
      (arg25.view.read (Elt F) (arg25.view.writes (Elt F) (harg25.unread x23) L10) = headStep (BitVec.ofNat 32 (i 1).val) (headRows 7 (slotRead x14 (slotOf (i 1).val))) x23) ∧
      (arg26.view.read (Elt F) (arg26.view.writes (Elt F) (harg26.unread x24) L11) = headStep (BitVec.ofNat 32 (i 1).val) (headRows 8 (slotRead x14 (slotOf (i 1).val))) x24) ∧
      (arg27.view.read (Elt F) (arg27.view.writes (Elt F) (harg27.unread x25) L12) = headStep (BitVec.ofNat 32 (i 1).val) (headRows 9 (slotRead x14 (slotOf (i 1).val))) x25) ∧
      (arg28.view.read (Elt F) (arg28.view.writes (Elt F) (harg28.unread x26) L13) = headStep (BitVec.ofNat 32 (i 1).val) (headRows 10 (slotRead x14 (slotOf (i 1).val))) x26) ∧
      (arg29.view.read (Elt F) (arg29.view.writes (Elt F) (harg29.unread x27) L14) = headStep (BitVec.ofNat 32 (i 1).val) (headRows 11 (slotRead x14 (slotOf (i 1).val))) x27) ∧
      (arg30.view.read (Elt F) (arg30.view.writes (Elt F) (harg30.unread x28) L15) = headStep (BitVec.ofNat 32 (i 1).val) (headRows 12 (slotRead x14 (slotOf (i 1).val))) x28) ∧
      (arg31.view.read (Elt F) (arg31.view.writes (Elt F) (harg31.unread x29) L16) = headStep (BitVec.ofNat 32 (i 1).val) (headRows 13 (slotRead x14 (slotOf (i 1).val))) x29) ∧
      (arg32.view.read (Elt F) (arg32.view.writes (Elt F) (harg32.unread x30) L17) = headStep (BitVec.ofNat 32 (i 1).val) (headRows 14 (slotRead x14 (slotOf (i 1).val))) x30) ∧
      (arg33.view.read (Elt F) (arg33.view.writes (Elt F) (harg33.unread x31) L18) = headStep (BitVec.ofNat 32 (i 1).val) (headRows 15 (slotRead x14 (slotOf (i 1).val))) x31) ∧
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} harg17.unread x15) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  have hr := readAt_slot arg16 harg16 x14 (k0_off1_inb i hc1) (slotOf (i 1).val) (k0_off1_eq i)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · exact slotPut_of arg16 harg16 x14 (k0_off2_inb i hc1) (slotOf ((i 1).val + 1)) (k0_off2_eq i) (keyBlock_of (readAt_all (off := ![0, 0, 0, 0, 0]) arg3 harg3 x1 (by decide)) (readAt_all (off := ![0, 0]) arg4 harg4 x2 (by decide)) (readAt_all (off := ![0, 0]) arg5 harg5 x3 (by decide)) (readAt_all (off := ![0, 0]) arg6 harg6 x4 (by decide)) (readAt_all (off := ![0, 0]) arg7 harg7 x5 (by decide)) (readAt_all (off := ![0, 0]) arg8 harg8 x6 (by decide)) (readAt_all (off := ![0, 0]) arg9 harg9 x7 (by decide)) (readAt_all (off := ![0, 0]) arg10 harg10 x8 (by decide)) rfl)
  · exact (View.read_writes_full _ _ _ _ _).trans (headStep_of rfl (readAt_all (off := ![0, 0]) arg18 harg18 x16 (by decide)) rfl)
  · exact (View.read_writes_full _ _ _ _ _).trans (headStep_of rfl (readAt_all (off := ![0, 0]) arg19 harg19 x17 (by decide)) rfl)
  · exact (View.read_writes_full _ _ _ _ _).trans (headStep_of rfl (readAt_all (off := ![0, 0]) arg20 harg20 x18 (by decide)) rfl)
  · exact (View.read_writes_full _ _ _ _ _).trans (headStep_of rfl (readAt_all (off := ![0, 0]) arg21 harg21 x19 (by decide)) rfl)
  · exact (View.read_writes_full _ _ _ _ _).trans (headStep_of rfl (readAt_all (off := ![0, 0]) arg22 harg22 x20 (by decide)) rfl)
  · exact (View.read_writes_full _ _ _ _ _).trans (headStep_of rfl (readAt_all (off := ![0, 0]) arg23 harg23 x21 (by decide)) rfl)
  · exact (View.read_writes_full _ _ _ _ _).trans (headStep_of rfl (readAt_all (off := ![0, 0]) arg24 harg24 x22 (by decide)) rfl)
  · exact (View.read_writes_full _ _ _ _ _).trans (headStep_of rfl (readAt_all (off := ![0, 0]) arg25 harg25 x23 (by decide)) rfl)
  · exact (View.read_writes_full _ _ _ _ _).trans (headStep_of rfl (readAt_all (off := ![0, 0]) arg26 harg26 x24 (by decide)) rfl)
  · exact (View.read_writes_full _ _ _ _ _).trans (headStep_of rfl (readAt_all (off := ![0, 0]) arg27 harg27 x25 (by decide)) rfl)
  · exact (View.read_writes_full _ _ _ _ _).trans (headStep_of rfl (readAt_all (off := ![0, 0]) arg28 harg28 x26 (by decide)) rfl)
  · exact (View.read_writes_full _ _ _ _ _).trans (headStep_of rfl (readAt_all (off := ![0, 0]) arg29 harg29 x27 (by decide)) rfl)
  · exact (View.read_writes_full _ _ _ _ _).trans (headStep_of rfl (readAt_all (off := ![0, 0]) arg30 harg30 x28 (by decide)) rfl)
  · exact (View.read_writes_full _ _ _ _ _).trans (headStep_of rfl (readAt_all (off := ![0, 0]) arg31 harg31 x29 (by decide)) rfl)
  · exact (View.read_writes_full _ _ _ _ _).trans (headStep_of rfl (readAt_all (off := ![0, 0]) arg32 harg32 x30 (by decide)) rfl)
  · exact (View.read_writes_full _ _ _ _ _).trans (headStep_of rfl (readAt_all (off := ![0, 0]) arg33 harg33 x31 (by decide)) rfl)

end Cert.KernelIdeal.Gen

end
-- ==== Proof.KI.RunC.lean ====
/- The whole body of the kernel run at point 15 (case C). -/
module

public import proofs.«01_k».proof.Proof.KI.Val

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At point 15 the body, run on whole buffers holding `x0` … `x31`, keeps its inputs and leaves in the output window,
    the key buffer, the read-out rows and the sixteen memories what it stored there (`L0` … `L18`, last store first,
    found by the run; none where it stores nothing). -/
theorem runC (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : ¬cond0_0 i) (hc1 : cond0_1 i) (hc2 : cond0_2 i) (hc3 : ¬cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L1 : List (View.Piece (Elt F) S2x2048x256 .f32)) (L2 : List (View.Piece (Elt F) S16x256 .f32)) (L3 : List (View.Piece (Elt F) S256x256 .f32)) (L4 : List (View.Piece (Elt F) S256x256 .f32)) (L5 : List (View.Piece (Elt F) S256x256 .f32)) (L6 : List (View.Piece (Elt F) S256x256 .f32)) (L7 : List (View.Piece (Elt F) S256x256 .f32)) (L8 : List (View.Piece (Elt F) S256x256 .f32)) (L9 : List (View.Piece (Elt F) S256x256 .f32)) (L10 : List (View.Piece (Elt F) S256x256 .f32)) (L11 : List (View.Piece (Elt F) S256x256 .f32)) (L12 : List (View.Piece (Elt F) S256x256 .f32)) (L13 : List (View.Piece (Elt F) S256x256 .f32)) (L14 : List (View.Piece (Elt F) S256x256 .f32)) (L15 : List (View.Piece (Elt F) S256x256 .f32)) (L16 : List (View.Piece (Elt F) S256x256 .f32)) (L17 : List (View.Piece (Elt F) S256x256 .f32)) (L18 : List (View.Piece (Elt F) S256x256 .f32)),
      (arg16.view.read (Elt F) (arg16.view.writes (Elt F) (harg16.unread x14) L1) = slotPut x14 (slotOf ((i 1).val + 1)) (keyBlock x1 x2 x3 x4 x5 x6 x7 x8)) ∧
      (arg17.view.read (Elt F) (arg17.view.writes (Elt F) (harg17.unread x15) L2) = readOut (fun g => headRows g (slotRead x14 (slotOf (i 1).val))) (fun g => headStep (BitVec.ofNat 32 (i 1).val) (headRows g (slotRead x14 (slotOf (i 1).val))) (![x16, x17, x18, x19, x20, x21, x22, x23, x24, x25, x26, x27, x28, x29, x30, x31] g)) x9 x10) ∧
      (arg18.view.read (Elt F) (arg18.view.writes (Elt F) (harg18.unread x16) L3) = headStep (BitVec.ofNat 32 (i 1).val) (headRows 0 (slotRead x14 (slotOf (i 1).val))) x16) ∧
      (arg19.view.read (Elt F) (arg19.view.writes (Elt F) (harg19.unread x17) L4) = headStep (BitVec.ofNat 32 (i 1).val) (headRows 1 (slotRead x14 (slotOf (i 1).val))) x17) ∧
      (arg20.view.read (Elt F) (arg20.view.writes (Elt F) (harg20.unread x18) L5) = headStep (BitVec.ofNat 32 (i 1).val) (headRows 2 (slotRead x14 (slotOf (i 1).val))) x18) ∧
      (arg21.view.read (Elt F) (arg21.view.writes (Elt F) (harg21.unread x19) L6) = headStep (BitVec.ofNat 32 (i 1).val) (headRows 3 (slotRead x14 (slotOf (i 1).val))) x19) ∧
      (arg22.view.read (Elt F) (arg22.view.writes (Elt F) (harg22.unread x20) L7) = headStep (BitVec.ofNat 32 (i 1).val) (headRows 4 (slotRead x14 (slotOf (i 1).val))) x20) ∧
      (arg23.view.read (Elt F) (arg23.view.writes (Elt F) (harg23.unread x21) L8) = headStep (BitVec.ofNat 32 (i 1).val) (headRows 5 (slotRead x14 (slotOf (i 1).val))) x21) ∧
      (arg24.view.read (Elt F) (arg24.view.writes (Elt F) (harg24.unread x22) L9) = headStep (BitVec.ofNat 32 (i 1).val) (headRows 6 (slotRead x14 (slotOf (i 1).val))) x22) ∧
      (arg25.view.read (Elt F) (arg25.view.writes (Elt F) (harg25.unread x23) L10) = headStep (BitVec.ofNat 32 (i 1).val) (headRows 7 (slotRead x14 (slotOf (i 1).val))) x23) ∧
      (arg26.view.read (Elt F) (arg26.view.writes (Elt F) (harg26.unread x24) L11) = headStep (BitVec.ofNat 32 (i 1).val) (headRows 8 (slotRead x14 (slotOf (i 1).val))) x24) ∧
      (arg27.view.read (Elt F) (arg27.view.writes (Elt F) (harg27.unread x25) L12) = headStep (BitVec.ofNat 32 (i 1).val) (headRows 9 (slotRead x14 (slotOf (i 1).val))) x25) ∧
      (arg28.view.read (Elt F) (arg28.view.writes (Elt F) (harg28.unread x26) L13) = headStep (BitVec.ofNat 32 (i 1).val) (headRows 10 (slotRead x14 (slotOf (i 1).val))) x26) ∧
      (arg29.view.read (Elt F) (arg29.view.writes (Elt F) (harg29.unread x27) L14) = headStep (BitVec.ofNat 32 (i 1).val) (headRows 11 (slotRead x14 (slotOf (i 1).val))) x27) ∧
      (arg30.view.read (Elt F) (arg30.view.writes (Elt F) (harg30.unread x28) L15) = headStep (BitVec.ofNat 32 (i 1).val) (headRows 12 (slotRead x14 (slotOf (i 1).val))) x28) ∧
      (arg31.view.read (Elt F) (arg31.view.writes (Elt F) (harg31.unread x29) L16) = headStep (BitVec.ofNat 32 (i 1).val) (headRows 13 (slotRead x14 (slotOf (i 1).val))) x29) ∧
      (arg32.view.read (Elt F) (arg32.view.writes (Elt F) (harg32.unread x30) L17) = headStep (BitVec.ofNat 32 (i 1).val) (headRows 14 (slotRead x14 (slotOf (i 1).val))) x30) ∧
      (arg33.view.read (Elt F) (arg33.view.writes (Elt F) (harg33.unread x31) L18) = headStep (BitVec.ofNat 32 (i 1).val) (headRows 15 (slotRead x14 (slotOf (i 1).val))) x31) ∧
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} arg16.view.writes (Elt F) (harg16.unread x14) L1) ∗ (arg17.view.loc (c : Thread nD τ) ↦[arg17.view.set]{fullShare} arg17.view.writes (Elt F) (harg17.unread x15) L2) ∗ (arg18.view.loc (c : Thread nD τ) ↦[arg18.view.set]{fullShare} arg18.view.writes (Elt F) (harg18.unread x16) L3) ∗ (arg19.view.loc (c : Thread nD τ) ↦[arg19.view.set]{fullShare} arg19.view.writes (Elt F) (harg19.unread x17) L4) ∗ (arg20.view.loc (c : Thread nD τ) ↦[arg20.view.set]{fullShare} arg20.view.writes (Elt F) (harg20.unread x18) L5) ∗ (arg21.view.loc (c : Thread nD τ) ↦[arg21.view.set]{fullShare} arg21.view.writes (Elt F) (harg21.unread x19) L6) ∗ (arg22.view.loc (c : Thread nD τ) ↦[arg22.view.set]{fullShare} arg22.view.writes (Elt F) (harg22.unread x20) L7) ∗ (arg23.view.loc (c : Thread nD τ) ↦[arg23.view.set]{fullShare} arg23.view.writes (Elt F) (harg23.unread x21) L8) ∗ (arg24.view.loc (c : Thread nD τ) ↦[arg24.view.set]{fullShare} arg24.view.writes (Elt F) (harg24.unread x22) L9) ∗ (arg25.view.loc (c : Thread nD τ) ↦[arg25.view.set]{fullShare} arg25.view.writes (Elt F) (harg25.unread x23) L10) ∗ (arg26.view.loc (c : Thread nD τ) ↦[arg26.view.set]{fullShare} arg26.view.writes (Elt F) (harg26.unread x24) L11) ∗ (arg27.view.loc (c : Thread nD τ) ↦[arg27.view.set]{fullShare} arg27.view.writes (Elt F) (harg27.unread x25) L12) ∗ (arg28.view.loc (c : Thread nD τ) ↦[arg28.view.set]{fullShare} arg28.view.writes (Elt F) (harg28.unread x26) L13) ∗ (arg29.view.loc (c : Thread nD τ) ↦[arg29.view.set]{fullShare} arg29.view.writes (Elt F) (harg29.unread x27) L14) ∗ (arg30.view.loc (c : Thread nD τ) ↦[arg30.view.set]{fullShare} arg30.view.writes (Elt F) (harg30.unread x28) L15) ∗ (arg31.view.loc (c : Thread nD τ) ↦[arg31.view.set]{fullShare} arg31.view.writes (Elt F) (harg31.unread x29) L16) ∗ (arg32.view.loc (c : Thread nD τ) ↦[arg32.view.set]{fullShare} arg32.view.writes (Elt F) (harg32.unread x30) L17) ∗ (arg33.view.loc (c : Thread nD τ) ↦[arg33.view.set]{fullShare} arg33.view.writes (Elt F) (harg33.unread x31) L18)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  have hr := readAt_slot arg16 harg16 x14 (k0_off1_inb i hc1) (slotOf (i 1).val) (k0_off1_eq i)
  have hM := vec16 (readAt_all (off := ![0, 0]) arg18 harg18 x16 (by decide)) (readAt_all (off := ![0, 0]) arg19 harg19 x17 (by decide)) (readAt_all (off := ![0, 0]) arg20 harg20 x18 (by decide)) (readAt_all (off := ![0, 0]) arg21 harg21 x19 (by decide)) (readAt_all (off := ![0, 0]) arg22 harg22 x20 (by decide)) (readAt_all (off := ![0, 0]) arg23 harg23 x21 (by decide)) (readAt_all (off := ![0, 0]) arg24 harg24 x22 (by decide)) (readAt_all (off := ![0, 0]) arg25 harg25 x23 (by decide)) (readAt_all (off := ![0, 0]) arg26 harg26 x24 (by decide)) (readAt_all (off := ![0, 0]) arg27 harg27 x25 (by decide)) (readAt_all (off := ![0, 0]) arg28 harg28 x26 (by decide)) (readAt_all (off := ![0, 0]) arg29 harg29 x27 (by decide)) (readAt_all (off := ![0, 0]) arg30 harg30 x28 (by decide)) (readAt_all (off := ![0, 0]) arg31 harg31 x29 (by decide)) (readAt_all (off := ![0, 0]) arg32 harg32 x30 (by decide)) (readAt_all (off := ![0, 0]) arg33 harg33 x31 (by decide))
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_body_eq_skeleton]; unfold cc0_body_skel
    simp only [k0_part33_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part4_eq_skeleton]
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc2 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · exact slotPut_of arg16 harg16 x14 (k0_off2_inb i hc1) (slotOf ((i 1).val + 1)) (k0_off2_eq i) (keyBlock_of (readAt_all (off := ![0, 0, 0, 0, 0]) arg3 harg3 x1 (by decide)) (readAt_all (off := ![0, 0]) arg4 harg4 x2 (by decide)) (readAt_all (off := ![0, 0]) arg5 harg5 x3 (by decide)) (readAt_all (off := ![0, 0]) arg6 harg6 x4 (by decide)) (readAt_all (off := ![0, 0]) arg7 harg7 x5 (by decide)) (readAt_all (off := ![0, 0]) arg8 harg8 x6 (by decide)) (readAt_all (off := ![0, 0]) arg9 harg9 x7 (by decide)) (readAt_all (off := ![0, 0]) arg10 harg10 x8 (by decide)) rfl)
  · exact (View.read_writes_full _ _ _ _ _).trans (readOut_of rfl hM (readAt_all (off := ![0, 0]) arg11 harg11 x9 (by decide)) (readAt_all (off := ![0, 0]) arg12 harg12 x10 (by decide)) rfl)
  · exact (View.read_writes_full _ _ _ _ _).trans (headStep_of rfl (readAt_all (off := ![0, 0]) arg18 harg18 x16 (by decide)) rfl)
  · exact (View.read_writes_full _ _ _ _ _).trans (headStep_of rfl (readAt_all (off := ![0, 0]) arg19 harg19 x17 (by decide)) rfl)
  · exact (View.read_writes_full _ _ _ _ _).trans (headStep_of rfl (readAt_all (off := ![0, 0]) arg20 harg20 x18 (by decide)) rfl)
  · exact (View.read_writes_full _ _ _ _ _).trans (headStep_of rfl (readAt_all (off := ![0, 0]) arg21 harg21 x19 (by decide)) rfl)
  · exact (View.read_writes_full _ _ _ _ _).trans (headStep_of rfl (readAt_all (off := ![0, 0]) arg22 harg22 x20 (by decide)) rfl)
  · exact (View.read_writes_full _ _ _ _ _).trans (headStep_of rfl (readAt_all (off := ![0, 0]) arg23 harg23 x21 (by decide)) rfl)
  · exact (View.read_writes_full _ _ _ _ _).trans (headStep_of rfl (readAt_all (off := ![0, 0]) arg24 harg24 x22 (by decide)) rfl)
  · exact (View.read_writes_full _ _ _ _ _).trans (headStep_of rfl (readAt_all (off := ![0, 0]) arg25 harg25 x23 (by decide)) rfl)
  · exact (View.read_writes_full _ _ _ _ _).trans (headStep_of rfl (readAt_all (off := ![0, 0]) arg26 harg26 x24 (by decide)) rfl)
  · exact (View.read_writes_full _ _ _ _ _).trans (headStep_of rfl (readAt_all (off := ![0, 0]) arg27 harg27 x25 (by decide)) rfl)
  · exact (View.read_writes_full _ _ _ _ _).trans (headStep_of rfl (readAt_all (off := ![0, 0]) arg28 harg28 x26 (by decide)) rfl)
  · exact (View.read_writes_full _ _ _ _ _).trans (headStep_of rfl (readAt_all (off := ![0, 0]) arg29 harg29 x27 (by decide)) rfl)
  · exact (View.read_writes_full _ _ _ _ _).trans (headStep_of rfl (readAt_all (off := ![0, 0]) arg30 harg30 x28 (by decide)) rfl)
  · exact (View.read_writes_full _ _ _ _ _).trans (headStep_of rfl (readAt_all (off := ![0, 0]) arg31 harg31 x29 (by decide)) rfl)
  · exact (View.read_writes_full _ _ _ _ _).trans (headStep_of rfl (readAt_all (off := ![0, 0]) arg32 harg32 x30 (by decide)) rfl)
  · exact (View.read_writes_full _ _ _ _ _).trans (headStep_of rfl (readAt_all (off := ![0, 0]) arg33 harg33 x31 (by decide)) rfl)

end Cert.KernelIdeal.Gen

end
-- ==== Proof.KI.RunD.lean ====
/- The whole body of the kernel run at the points from 16 on (case D). -/
module

public import proofs.«01_k».proof.Proof.KI.Val

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the points from 16 on the body, run on whole buffers holding `x0` … `x31`, keeps its inputs and leaves in the output window,
    the key buffer, the read-out rows and the sixteen memories what it stored there (`L0` … `L18`, last store first,
    found by the run; none where it stores nothing). -/
theorem runD (c : Dev nD) (i : grid0.Coords) (arg2 : Memref sig .tc .vmem S1x16x1x128x256 .f32) (harg2 : arg2.IsWhole) (arg3 : Memref sig .tc .vmem S1x16x1x128x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x3200 .f32) (harg13 : arg13.IsWhole) (arg14 : Memref sig .tc .vmem S1x3200 .f32) (harg14 : arg14.IsWhole) (arg15 : Memref sig .tc .vmem S16x3200 .f32) (harg15 : arg15.IsWhole) (arg16 : Memref sig .tc .vmem S2x2048x256 .f32) (harg16 : arg16.IsWhole) (arg17 : Memref sig .tc .vmem S16x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (hc0 : ¬cond0_0 i) (hc1 : ¬cond0_1 i) (hc2 : ¬cond0_2 i) (hc3 : cond0_3 i)
    (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (x13 : Vec F S16x3200 .f32) (x14 : Vec F S2x2048x256 .f32) (x15 : Vec F S16x256 .f32) (x16 : Vec F S256x256 .f32) (x17 : Vec F S256x256 .f32) (x18 : Vec F S256x256 .f32) (x19 : Vec F S256x256 .f32) (x20 : Vec F S256x256 .f32) (x21 : Vec F S256x256 .f32) (x22 : Vec F S256x256 .f32) (x23 : Vec F S256x256 .f32) (x24 : Vec F S256x256 .f32) (x25 : Vec F S256x256 .f32) (x26 : Vec F S256x256 .f32) (x27 : Vec F S256x256 .f32) (x28 : Vec F S256x256 .f32) (x29 : Vec F S256x256 .f32) (x30 : Vec F S256x256 .f32) (x31 : Vec F S256x256 .f32) :
    ∃ (L0 : List (View.Piece (Elt F) S16x3200 .f32)),
      (arg15.view.read (Elt F) (arg15.view.writes (Elt F) (harg15.unread x13) L0) = k0_pay9 x15 x11 x12) ∧
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} arg15.view.writes (Elt F) (harg15.unread x13) L0) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (arg30.view.loc (c : Thread nD τ) ↦[arg30.view.set]{fullShare} harg30.unread x28) ∗ (arg31.view.loc (c : Thread nD τ) ↦[arg31.view.set]{fullShare} harg31.unread x29) ∗ (arg32.view.loc (c : Thread nD τ) ↦[arg32.view.set]{fullShare} harg32.unread x30) ∗ (arg33.view.loc (c : Thread nD τ) ↦[arg33.view.set]{fullShare} harg33.unread x31)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  refine ⟨?_, ?_, fun E K => ?run⟩
  case run =>
    simp only [cc0_body_eq_skeleton]; unfold cc0_body_skel
    iintro ⟨H0, H1, H2, H3, H4, H5, H6, H7, H8, H9, H10, H11, H12, H13, H14, H15, H16, H17, H18, H19, H20, H21, H22, H23, H24, H25, H26, H27, H28, H29, H30, H31, Hk⟩
    sl_exec (disch := first | sl_exact hc0 | sl_exact hc1 | sl_exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · exact (View.read_writes_full _ _ _ _ _).trans (by rw [readAt_all arg17 harg17 x15, readAt_all arg13 harg13 x11, readAt_all arg14 harg14 x12])

end Cert.KernelIdeal.Gen

end
-- ==== Proof.KI.Step.lean ====
/- The body of the kernel at a point of the grid: what it leaves in the output window and the scratch buffers. -/
module

public import proofs.«01_k».proof.Proof.KI.RunA
public import proofs.«01_k».proof.Proof.KI.RunB
public import proofs.«01_k».proof.Proof.KI.RunC
public import proofs.«01_k».proof.Proof.KI.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffers at given contents: the key buffer, the read-out rows, the sixteen memories. -/
def scratch (c : Dev nD) (kb : Vec F S2x2048x256 .f32) (rr : Vec F S16x256 .f32) (M : Fin 16 → Vec F S256x256 .f32) : sProp 𝕄 :=
  iprop(owns (c : Thread nD τ) scM0_0 fullShare kb ∗ owns (c : Thread nD τ) scM0_1 fullShare rr ∗ owns (c : Thread nD τ) scM0_2 fullShare (M 0) ∗ owns (c : Thread nD τ) scM0_3 fullShare (M 1) ∗ owns (c : Thread nD τ) scM0_4 fullShare (M 2) ∗ owns (c : Thread nD τ) scM0_5 fullShare (M 3) ∗ owns (c : Thread nD τ) scM0_6 fullShare (M 4) ∗ owns (c : Thread nD τ) scM0_7 fullShare (M 5) ∗ owns (c : Thread nD τ) scM0_8 fullShare (M 6) ∗ owns (c : Thread nD τ) scM0_9 fullShare (M 7) ∗ owns (c : Thread nD τ) scM0_10 fullShare (M 8) ∗ owns (c : Thread nD τ) scM0_11 fullShare (M 9) ∗ owns (c : Thread nD τ) scM0_12 fullShare (M 10) ∗ owns (c : Thread nD τ) scM0_13 fullShare (M 11) ∗ owns (c : Thread nD τ) scM0_14 fullShare (M 12) ∗ owns (c : Thread nD τ) scM0_15 fullShare (M 13) ∗ owns (c : Thread nD τ) scM0_16 fullShare (M 14) ∗ owns (c : Thread nD τ) scM0_17 fullShare (M 15))

/-- The windows' buffers at point `t` and the scratch buffers at given contents. -/
def held (c : Dev nD) (t : Fin cfg0.N) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (o : Vec F S16x3200 .f32)
    (kb : Vec F S2x2048x256 .f32) (rr : Vec F S16x256 .f32) (M : Fin 16 → Vec F S256x256 .f32) : sProp 𝕄 :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8 ∗ owns (c : Thread nD τ) (ms0_9 t) fullShare x9 ∗ owns (c : Thread nD τ) (ms0_10 t) fullShare x10 ∗ owns (c : Thread nD τ) (ms0_11 t) fullShare x11 ∗ owns (c : Thread nD τ) (ms0_12 t) fullShare x12 ∗ owns (c : Thread nD τ) (ms0_13 t) fullShare o ∗ scratch c kb rr M)

/-- A whole buffer owned at `x` gives its points-to at contents that read `x`. -/
theorem own_to (c : Dev nD) {s : Shape} (M : Memref sig .tc .vmem s .f32) (h : M.IsWhole) {f : M.view.ty.Contents (Elt F)} {x : Vec F s .f32}
    (hf : M.view.read (Elt F) f = x) :
    (owns (c : Thread nD τ) M fullShare x : sProp 𝕄) ⊢ (M.view.loc (c : Thread nD τ) ↦[M.view.set]{fullShare} f) := by
  unfold owns
  iintro ⟨%g, %hg, H⟩
  rw [show g = f from (h.eq_unread hg).trans (h.eq_unread hf).symm]
  iexact H

/-- A whole buffer's points-to at contents that read `x` owns it at `x`. -/
theorem to_own (c : Dev nD) {s : Shape} (M : Memref sig .tc .vmem s .f32) (h : M.IsWhole) {f : M.view.ty.Contents (Elt F)} {x : Vec F s .f32}
    (hf : M.view.read (Elt F) f = x) :
    (M.view.loc (c : Thread nD τ) ↦[M.view.set]{fullShare} f) ⊢ (owns (c : Thread nD τ) M fullShare x : sProp 𝕄) := by
  have h₂ := owns_intro (Ix := Unit) (Name := ℕ) (U := UR sig nD τ) (Lvl := ℕ) (c : Thread nD τ) M fullShare f
  rw [hf] at h₂
  exact h₂

set_option maxHeartbeats 2000000 in
/-- The body at the first point. -/
theorem stepA (c : Dev nD) (t : Fin cfg0.N) (h0 : cond0_0 (grid0.coords t)) (h1 : cond0_1 (grid0.coords t)) (h2 : ¬cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (o : Vec F S16x3200 .f32)
    (kb : Vec F S2x2048x256 .f32) (rr : Vec F S16x256 .f32) (M : Fin 16 → Vec F S256x256 .f32) (E : Set ℕ) (K : PUnit → sProp 𝕄) :
    iprop(held c t x0 x1 x2 x3 x4 x5 x6 x7 x8 x9 x10 x11 x12 o kb rr M ∗ (held c t x0 x1 x2 x3 x4 x5 x6 x7 x8 x9 x10 x11 x12 o
      (slotPut (slotPut kb 0 (keyBlock x0 x2 x3 x4 x5 x6 x7 x8)) 1 (keyBlock x1 x2 x3 x4 x5 x6 x7 x8))
      rr
      (fun g => headStep (BitVec.ofNat 32 (grid0.coords t 1).val) (headRows g (keyBlock x0 x2 x3 x4 x5 x6 x7 x8)) zeroMem) -∗ K ⟨⟩))
      ⊢ wp frame (wpE (defs₀ (F := F)) Variants.none c none) E (bodyAt0 t) K := by
  obtain ⟨L1, L3, L4, L5, L6, L7, L8, L9, L10, L11, L12, L13, L14, L15, L16, L17, L18, f1, f3, f4, f5, f6, f7, f8, f9, f10, f11, f12, f13, f14, f15, f16, f17, f18, h⟩ := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o kb rr (M 0) (M 1) (M 2) (M 3) (M 4) (M 5) (M 6) (M 7) (M 8) (M 9) (M 10) (M 11) (M 12) (M 13) (M 14) (M 15)
  unfold held scratch
  iintro ⟨⟨H0, H1, H2, H3, H4, H5, H6, H7, H8, H9, H10, H11, H12, H13, H14, H15, H16, H17, H18, H19, H20, H21, H22, H23, H24, H25, H26, H27, H28, H29, H30, H31⟩, Hk⟩
  iapply (h E K)
  isplitl [H0]; · iapply (own_to c (ms0_0 t) (hs0_0 t) ((hs0_0 t).read_unread x0)); iexact H0
  isplitl [H1]; · iapply (own_to c (ms0_1 t) (hs0_1 t) ((hs0_1 t).read_unread x1)); iexact H1
  isplitl [H2]; · iapply (own_to c (ms0_2 t) (hs0_2 t) ((hs0_2 t).read_unread x2)); iexact H2
  isplitl [H3]; · iapply (own_to c (ms0_3 t) (hs0_3 t) ((hs0_3 t).read_unread x3)); iexact H3
  isplitl [H4]; · iapply (own_to c (ms0_4 t) (hs0_4 t) ((hs0_4 t).read_unread x4)); iexact H4
  isplitl [H5]; · iapply (own_to c (ms0_5 t) (hs0_5 t) ((hs0_5 t).read_unread x5)); iexact H5
  isplitl [H6]; · iapply (own_to c (ms0_6 t) (hs0_6 t) ((hs0_6 t).read_unread x6)); iexact H6
  isplitl [H7]; · iapply (own_to c (ms0_7 t) (hs0_7 t) ((hs0_7 t).read_unread x7)); iexact H7
  isplitl [H8]; · iapply (own_to c (ms0_8 t) (hs0_8 t) ((hs0_8 t).read_unread x8)); iexact H8
  isplitl [H9]; · iapply (own_to c (ms0_9 t) (hs0_9 t) ((hs0_9 t).read_unread x9)); iexact H9
  isplitl [H10]; · iapply (own_to c (ms0_10 t) (hs0_10 t) ((hs0_10 t).read_unread x10)); iexact H10
  isplitl [H11]; · iapply (own_to c (ms0_11 t) (hs0_11 t) ((hs0_11 t).read_unread x11)); iexact H11
  isplitl [H12]; · iapply (own_to c (ms0_12 t) (hs0_12 t) ((hs0_12 t).read_unread x12)); iexact H12
  isplitl [H13]; · iapply (own_to c (ms0_13 t) (hs0_13 t) ((hs0_13 t).read_unread o)); iexact H13
  isplitl [H14]; · iapply (own_to c scM0_0 (Memref.isWhole_whole _) ((Memref.isWhole_whole _).read_unread kb)); iexact H14
  isplitl [H15]; · iapply (own_to c scM0_1 (Memref.isWhole_whole _) ((Memref.isWhole_whole _).read_unread rr)); iexact H15
  isplitl [H16]; · iapply (own_to c scM0_2 (Memref.isWhole_whole _) ((Memref.isWhole_whole _).read_unread (M 0))); iexact H16
  isplitl [H17]; · iapply (own_to c scM0_3 (Memref.isWhole_whole _) ((Memref.isWhole_whole _).read_unread (M 1))); iexact H17
  isplitl [H18]; · iapply (own_to c scM0_4 (Memref.isWhole_whole _) ((Memref.isWhole_whole _).read_unread (M 2))); iexact H18
  isplitl [H19]; · iapply (own_to c scM0_5 (Memref.isWhole_whole _) ((Memref.isWhole_whole _).read_unread (M 3))); iexact H19
  isplitl [H20]; · iapply (own_to c scM0_6 (Memref.isWhole_whole _) ((Memref.isWhole_whole _).read_unread (M 4))); iexact H20
  isplitl [H21]; · iapply (own_to c scM0_7 (Memref.isWhole_whole _) ((Memref.isWhole_whole _).read_unread (M 5))); iexact H21
  isplitl [H22]; · iapply (own_to c scM0_8 (Memref.isWhole_whole _) ((Memref.isWhole_whole _).read_unread (M 6))); iexact H22
  isplitl [H23]; · iapply (own_to c scM0_9 (Memref.isWhole_whole _) ((Memref.isWhole_whole _).read_unread (M 7))); iexact H23
  isplitl [H24]; · iapply (own_to c scM0_10 (Memref.isWhole_whole _) ((Memref.isWhole_whole _).read_unread (M 8))); iexact H24
  isplitl [H25]; · iapply (own_to c scM0_11 (Memref.isWhole_whole _) ((Memref.isWhole_whole _).read_unread (M 9))); iexact H25
  isplitl [H26]; · iapply (own_to c scM0_12 (Memref.isWhole_whole _) ((Memref.isWhole_whole _).read_unread (M 10))); iexact H26
  isplitl [H27]; · iapply (own_to c scM0_13 (Memref.isWhole_whole _) ((Memref.isWhole_whole _).read_unread (M 11))); iexact H27
  isplitl [H28]; · iapply (own_to c scM0_14 (Memref.isWhole_whole _) ((Memref.isWhole_whole _).read_unread (M 12))); iexact H28
  isplitl [H29]; · iapply (own_to c scM0_15 (Memref.isWhole_whole _) ((Memref.isWhole_whole _).read_unread (M 13))); iexact H29
  isplitl [H30]; · iapply (own_to c scM0_16 (Memref.isWhole_whole _) ((Memref.isWhole_whole _).read_unread (M 14))); iexact H30
  isplitl [H31]; · iapply (own_to c scM0_17 (Memref.isWhole_whole _) ((Memref.isWhole_whole _).read_unread (M 15))); iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iapply (to_own c (ms0_0 t) (hs0_0 t) ((hs0_0 t).read_unread x0)); iexact H0
  isplitl [H1]; · iapply (to_own c (ms0_1 t) (hs0_1 t) ((hs0_1 t).read_unread x1)); iexact H1
  isplitl [H2]; · iapply (to_own c (ms0_2 t) (hs0_2 t) ((hs0_2 t).read_unread x2)); iexact H2
  isplitl [H3]; · iapply (to_own c (ms0_3 t) (hs0_3 t) ((hs0_3 t).read_unread x3)); iexact H3
  isplitl [H4]; · iapply (to_own c (ms0_4 t) (hs0_4 t) ((hs0_4 t).read_unread x4)); iexact H4
  isplitl [H5]; · iapply (to_own c (ms0_5 t) (hs0_5 t) ((hs0_5 t).read_unread x5)); iexact H5
  isplitl [H6]; · iapply (to_own c (ms0_6 t) (hs0_6 t) ((hs0_6 t).read_unread x6)); iexact H6
  isplitl [H7]; · iapply (to_own c (ms0_7 t) (hs0_7 t) ((hs0_7 t).read_unread x7)); iexact H7
  isplitl [H8]; · iapply (to_own c (ms0_8 t) (hs0_8 t) ((hs0_8 t).read_unread x8)); iexact H8
  isplitl [H9]; · iapply (to_own c (ms0_9 t) (hs0_9 t) ((hs0_9 t).read_unread x9)); iexact H9
  isplitl [H10]; · iapply (to_own c (ms0_10 t) (hs0_10 t) ((hs0_10 t).read_unread x10)); iexact H10
  isplitl [H11]; · iapply (to_own c (ms0_11 t) (hs0_11 t) ((hs0_11 t).read_unread x11)); iexact H11
  isplitl [H12]; · iapply (to_own c (ms0_12 t) (hs0_12 t) ((hs0_12 t).read_unread x12)); iexact H12
  isplitl [H13]; · iapply (to_own c (ms0_13 t) (hs0_13 t) ((hs0_13 t).read_unread o)); iexact H13
  isplitl [H14]; · iapply (to_own c scM0_0 (Memref.isWhole_whole _) f1); iexact H14
  isplitl [H15]; · iapply (to_own c scM0_1 (Memref.isWhole_whole _) ((Memref.isWhole_whole _).read_unread rr)); iexact H15
  isplitl [H16]; · iapply (to_own c scM0_2 (Memref.isWhole_whole _) f3); iexact H16
  isplitl [H17]; · iapply (to_own c scM0_3 (Memref.isWhole_whole _) f4); iexact H17
  isplitl [H18]; · iapply (to_own c scM0_4 (Memref.isWhole_whole _) f5); iexact H18
  isplitl [H19]; · iapply (to_own c scM0_5 (Memref.isWhole_whole _) f6); iexact H19
  isplitl [H20]; · iapply (to_own c scM0_6 (Memref.isWhole_whole _) f7); iexact H20
  isplitl [H21]; · iapply (to_own c scM0_7 (Memref.isWhole_whole _) f8); iexact H21
  isplitl [H22]; · iapply (to_own c scM0_8 (Memref.isWhole_whole _) f9); iexact H22
  isplitl [H23]; · iapply (to_own c scM0_9 (Memref.isWhole_whole _) f10); iexact H23
  isplitl [H24]; · iapply (to_own c scM0_10 (Memref.isWhole_whole _) f11); iexact H24
  isplitl [H25]; · iapply (to_own c scM0_11 (Memref.isWhole_whole _) f12); iexact H25
  isplitl [H26]; · iapply (to_own c scM0_12 (Memref.isWhole_whole _) f13); iexact H26
  isplitl [H27]; · iapply (to_own c scM0_13 (Memref.isWhole_whole _) f14); iexact H27
  isplitl [H28]; · iapply (to_own c scM0_14 (Memref.isWhole_whole _) f15); iexact H28
  isplitl [H29]; · iapply (to_own c scM0_15 (Memref.isWhole_whole _) f16); iexact H29
  isplitl [H30]; · iapply (to_own c scM0_16 (Memref.isWhole_whole _) f17); iexact H30
  iapply (to_own c scM0_17 (Memref.isWhole_whole _) f18); iexact H31

set_option maxHeartbeats 2000000 in
/-- The body at the points 1 to 14. -/
theorem stepB (c : Dev nD) (t : Fin cfg0.N) (h0 : ¬cond0_0 (grid0.coords t)) (h1 : cond0_1 (grid0.coords t)) (h2 : ¬cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (o : Vec F S16x3200 .f32)
    (kb : Vec F S2x2048x256 .f32) (rr : Vec F S16x256 .f32) (M : Fin 16 → Vec F S256x256 .f32) (E : Set ℕ) (K : PUnit → sProp 𝕄) :
    iprop(held c t x0 x1 x2 x3 x4 x5 x6 x7 x8 x9 x10 x11 x12 o kb rr M ∗ (held c t x0 x1 x2 x3 x4 x5 x6 x7 x8 x9 x10 x11 x12 o
      (slotPut kb (slotOf ((grid0.coords t 1).val + 1)) (keyBlock x1 x2 x3 x4 x5 x6 x7 x8))
      rr
      (fun g => headStep (BitVec.ofNat 32 (grid0.coords t 1).val) (headRows g (slotRead kb (slotOf (grid0.coords t 1).val))) (M g)) -∗ K ⟨⟩))
      ⊢ wp frame (wpE (defs₀ (F := F)) Variants.none c none) E (bodyAt0 t) K := by
  obtain ⟨L1, L3, L4, L5, L6, L7, L8, L9, L10, L11, L12, L13, L14, L15, L16, L17, L18, f1, f3, f4, f5, f6, f7, f8, f9, f10, f11, f12, f13, f14, f15, f16, f17, f18, h⟩ := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o kb rr (M 0) (M 1) (M 2) (M 3) (M 4) (M 5) (M 6) (M 7) (M 8) (M 9) (M 10) (M 11) (M 12) (M 13) (M 14) (M 15)
  unfold held scratch
  iintro ⟨⟨H0, H1, H2, H3, H4, H5, H6, H7, H8, H9, H10, H11, H12, H13, H14, H15, H16, H17, H18, H19, H20, H21, H22, H23, H24, H25, H26, H27, H28, H29, H30, H31⟩, Hk⟩
  iapply (h E K)
  isplitl [H0]; · iapply (own_to c (ms0_0 t) (hs0_0 t) ((hs0_0 t).read_unread x0)); iexact H0
  isplitl [H1]; · iapply (own_to c (ms0_1 t) (hs0_1 t) ((hs0_1 t).read_unread x1)); iexact H1
  isplitl [H2]; · iapply (own_to c (ms0_2 t) (hs0_2 t) ((hs0_2 t).read_unread x2)); iexact H2
  isplitl [H3]; · iapply (own_to c (ms0_3 t) (hs0_3 t) ((hs0_3 t).read_unread x3)); iexact H3
  isplitl [H4]; · iapply (own_to c (ms0_4 t) (hs0_4 t) ((hs0_4 t).read_unread x4)); iexact H4
  isplitl [H5]; · iapply (own_to c (ms0_5 t) (hs0_5 t) ((hs0_5 t).read_unread x5)); iexact H5
  isplitl [H6]; · iapply (own_to c (ms0_6 t) (hs0_6 t) ((hs0_6 t).read_unread x6)); iexact H6
  isplitl [H7]; · iapply (own_to c (ms0_7 t) (hs0_7 t) ((hs0_7 t).read_unread x7)); iexact H7
  isplitl [H8]; · iapply (own_to c (ms0_8 t) (hs0_8 t) ((hs0_8 t).read_unread x8)); iexact H8
  isplitl [H9]; · iapply (own_to c (ms0_9 t) (hs0_9 t) ((hs0_9 t).read_unread x9)); iexact H9
  isplitl [H10]; · iapply (own_to c (ms0_10 t) (hs0_10 t) ((hs0_10 t).read_unread x10)); iexact H10
  isplitl [H11]; · iapply (own_to c (ms0_11 t) (hs0_11 t) ((hs0_11 t).read_unread x11)); iexact H11
  isplitl [H12]; · iapply (own_to c (ms0_12 t) (hs0_12 t) ((hs0_12 t).read_unread x12)); iexact H12
  isplitl [H13]; · iapply (own_to c (ms0_13 t) (hs0_13 t) ((hs0_13 t).read_unread o)); iexact H13
  isplitl [H14]; · iapply (own_to c scM0_0 (Memref.isWhole_whole _) ((Memref.isWhole_whole _).read_unread kb)); iexact H14
  isplitl [H15]; · iapply (own_to c scM0_1 (Memref.isWhole_whole _) ((Memref.isWhole_whole _).read_unread rr)); iexact H15
  isplitl [H16]; · iapply (own_to c scM0_2 (Memref.isWhole_whole _) ((Memref.isWhole_whole _).read_unread (M 0))); iexact H16
  isplitl [H17]; · iapply (own_to c scM0_3 (Memref.isWhole_whole _) ((Memref.isWhole_whole _).read_unread (M 1))); iexact H17
  isplitl [H18]; · iapply (own_to c scM0_4 (Memref.isWhole_whole _) ((Memref.isWhole_whole _).read_unread (M 2))); iexact H18
  isplitl [H19]; · iapply (own_to c scM0_5 (Memref.isWhole_whole _) ((Memref.isWhole_whole _).read_unread (M 3))); iexact H19
  isplitl [H20]; · iapply (own_to c scM0_6 (Memref.isWhole_whole _) ((Memref.isWhole_whole _).read_unread (M 4))); iexact H20
  isplitl [H21]; · iapply (own_to c scM0_7 (Memref.isWhole_whole _) ((Memref.isWhole_whole _).read_unread (M 5))); iexact H21
  isplitl [H22]; · iapply (own_to c scM0_8 (Memref.isWhole_whole _) ((Memref.isWhole_whole _).read_unread (M 6))); iexact H22
  isplitl [H23]; · iapply (own_to c scM0_9 (Memref.isWhole_whole _) ((Memref.isWhole_whole _).read_unread (M 7))); iexact H23
  isplitl [H24]; · iapply (own_to c scM0_10 (Memref.isWhole_whole _) ((Memref.isWhole_whole _).read_unread (M 8))); iexact H24
  isplitl [H25]; · iapply (own_to c scM0_11 (Memref.isWhole_whole _) ((Memref.isWhole_whole _).read_unread (M 9))); iexact H25
  isplitl [H26]; · iapply (own_to c scM0_12 (Memref.isWhole_whole _) ((Memref.isWhole_whole _).read_unread (M 10))); iexact H26
  isplitl [H27]; · iapply (own_to c scM0_13 (Memref.isWhole_whole _) ((Memref.isWhole_whole _).read_unread (M 11))); iexact H27
  isplitl [H28]; · iapply (own_to c scM0_14 (Memref.isWhole_whole _) ((Memref.isWhole_whole _).read_unread (M 12))); iexact H28
  isplitl [H29]; · iapply (own_to c scM0_15 (Memref.isWhole_whole _) ((Memref.isWhole_whole _).read_unread (M 13))); iexact H29
  isplitl [H30]; · iapply (own_to c scM0_16 (Memref.isWhole_whole _) ((Memref.isWhole_whole _).read_unread (M 14))); iexact H30
  isplitl [H31]; · iapply (own_to c scM0_17 (Memref.isWhole_whole _) ((Memref.isWhole_whole _).read_unread (M 15))); iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iapply (to_own c (ms0_0 t) (hs0_0 t) ((hs0_0 t).read_unread x0)); iexact H0
  isplitl [H1]; · iapply (to_own c (ms0_1 t) (hs0_1 t) ((hs0_1 t).read_unread x1)); iexact H1
  isplitl [H2]; · iapply (to_own c (ms0_2 t) (hs0_2 t) ((hs0_2 t).read_unread x2)); iexact H2
  isplitl [H3]; · iapply (to_own c (ms0_3 t) (hs0_3 t) ((hs0_3 t).read_unread x3)); iexact H3
  isplitl [H4]; · iapply (to_own c (ms0_4 t) (hs0_4 t) ((hs0_4 t).read_unread x4)); iexact H4
  isplitl [H5]; · iapply (to_own c (ms0_5 t) (hs0_5 t) ((hs0_5 t).read_unread x5)); iexact H5
  isplitl [H6]; · iapply (to_own c (ms0_6 t) (hs0_6 t) ((hs0_6 t).read_unread x6)); iexact H6
  isplitl [H7]; · iapply (to_own c (ms0_7 t) (hs0_7 t) ((hs0_7 t).read_unread x7)); iexact H7
  isplitl [H8]; · iapply (to_own c (ms0_8 t) (hs0_8 t) ((hs0_8 t).read_unread x8)); iexact H8
  isplitl [H9]; · iapply (to_own c (ms0_9 t) (hs0_9 t) ((hs0_9 t).read_unread x9)); iexact H9
  isplitl [H10]; · iapply (to_own c (ms0_10 t) (hs0_10 t) ((hs0_10 t).read_unread x10)); iexact H10
  isplitl [H11]; · iapply (to_own c (ms0_11 t) (hs0_11 t) ((hs0_11 t).read_unread x11)); iexact H11
  isplitl [H12]; · iapply (to_own c (ms0_12 t) (hs0_12 t) ((hs0_12 t).read_unread x12)); iexact H12
  isplitl [H13]; · iapply (to_own c (ms0_13 t) (hs0_13 t) ((hs0_13 t).read_unread o)); iexact H13
  isplitl [H14]; · iapply (to_own c scM0_0 (Memref.isWhole_whole _) f1); iexact H14
  isplitl [H15]; · iapply (to_own c scM0_1 (Memref.isWhole_whole _) ((Memref.isWhole_whole _).read_unread rr)); iexact H15
  isplitl [H16]; · iapply (to_own c scM0_2 (Memref.isWhole_whole _) f3); iexact H16
  isplitl [H17]; · iapply (to_own c scM0_3 (Memref.isWhole_whole _) f4); iexact H17
  isplitl [H18]; · iapply (to_own c scM0_4 (Memref.isWhole_whole _) f5); iexact H18
  isplitl [H19]; · iapply (to_own c scM0_5 (Memref.isWhole_whole _) f6); iexact H19
  isplitl [H20]; · iapply (to_own c scM0_6 (Memref.isWhole_whole _) f7); iexact H20
  isplitl [H21]; · iapply (to_own c scM0_7 (Memref.isWhole_whole _) f8); iexact H21
  isplitl [H22]; · iapply (to_own c scM0_8 (Memref.isWhole_whole _) f9); iexact H22
  isplitl [H23]; · iapply (to_own c scM0_9 (Memref.isWhole_whole _) f10); iexact H23
  isplitl [H24]; · iapply (to_own c scM0_10 (Memref.isWhole_whole _) f11); iexact H24
  isplitl [H25]; · iapply (to_own c scM0_11 (Memref.isWhole_whole _) f12); iexact H25
  isplitl [H26]; · iapply (to_own c scM0_12 (Memref.isWhole_whole _) f13); iexact H26
  isplitl [H27]; · iapply (to_own c scM0_13 (Memref.isWhole_whole _) f14); iexact H27
  isplitl [H28]; · iapply (to_own c scM0_14 (Memref.isWhole_whole _) f15); iexact H28
  isplitl [H29]; · iapply (to_own c scM0_15 (Memref.isWhole_whole _) f16); iexact H29
  isplitl [H30]; · iapply (to_own c scM0_16 (Memref.isWhole_whole _) f17); iexact H30
  iapply (to_own c scM0_17 (Memref.isWhole_whole _) f18); iexact H31

set_option maxHeartbeats 2000000 in
/-- The body at point 15. -/
theorem stepC (c : Dev nD) (t : Fin cfg0.N) (h0 : ¬cond0_0 (grid0.coords t)) (h1 : cond0_1 (grid0.coords t)) (h2 : cond0_2 (grid0.coords t)) (h3 : ¬cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (o : Vec F S16x3200 .f32)
    (kb : Vec F S2x2048x256 .f32) (rr : Vec F S16x256 .f32) (M : Fin 16 → Vec F S256x256 .f32) (E : Set ℕ) (K : PUnit → sProp 𝕄) :
    iprop(held c t x0 x1 x2 x3 x4 x5 x6 x7 x8 x9 x10 x11 x12 o kb rr M ∗ (held c t x0 x1 x2 x3 x4 x5 x6 x7 x8 x9 x10 x11 x12 o
      (slotPut kb (slotOf ((grid0.coords t 1).val + 1)) (keyBlock x1 x2 x3 x4 x5 x6 x7 x8))
      (readOut (fun g => headRows g (slotRead kb (slotOf (grid0.coords t 1).val))) (fun g => headStep (BitVec.ofNat 32 (grid0.coords t 1).val) (headRows g (slotRead kb (slotOf (grid0.coords t 1).val))) (M g)) x9 x10)
      (fun g => headStep (BitVec.ofNat 32 (grid0.coords t 1).val) (headRows g (slotRead kb (slotOf (grid0.coords t 1).val))) (M g)) -∗ K ⟨⟩))
      ⊢ wp frame (wpE (defs₀ (F := F)) Variants.none c none) E (bodyAt0 t) K := by
  obtain ⟨L1, L2, L3, L4, L5, L6, L7, L8, L9, L10, L11, L12, L13, L14, L15, L16, L17, L18, f1, f2, f3, f4, f5, f6, f7, f8, f9, f10, f11, f12, f13, f14, f15, f16, f17, f18, h⟩ := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o kb rr (M 0) (M 1) (M 2) (M 3) (M 4) (M 5) (M 6) (M 7) (M 8) (M 9) (M 10) (M 11) (M 12) (M 13) (M 14) (M 15)
  have hv : ![M 0, M 1, M 2, M 3, M 4, M 5, M 6, M 7, M 8, M 9, M 10, M 11, M 12, M 13, M 14, M 15] = M := by
    funext g; fin_cases g <;> rfl
  rw [hv] at f2
  unfold held scratch
  iintro ⟨⟨H0, H1, H2, H3, H4, H5, H6, H7, H8, H9, H10, H11, H12, H13, H14, H15, H16, H17, H18, H19, H20, H21, H22, H23, H24, H25, H26, H27, H28, H29, H30, H31⟩, Hk⟩
  iapply (h E K)
  isplitl [H0]; · iapply (own_to c (ms0_0 t) (hs0_0 t) ((hs0_0 t).read_unread x0)); iexact H0
  isplitl [H1]; · iapply (own_to c (ms0_1 t) (hs0_1 t) ((hs0_1 t).read_unread x1)); iexact H1
  isplitl [H2]; · iapply (own_to c (ms0_2 t) (hs0_2 t) ((hs0_2 t).read_unread x2)); iexact H2
  isplitl [H3]; · iapply (own_to c (ms0_3 t) (hs0_3 t) ((hs0_3 t).read_unread x3)); iexact H3
  isplitl [H4]; · iapply (own_to c (ms0_4 t) (hs0_4 t) ((hs0_4 t).read_unread x4)); iexact H4
  isplitl [H5]; · iapply (own_to c (ms0_5 t) (hs0_5 t) ((hs0_5 t).read_unread x5)); iexact H5
  isplitl [H6]; · iapply (own_to c (ms0_6 t) (hs0_6 t) ((hs0_6 t).read_unread x6)); iexact H6
  isplitl [H7]; · iapply (own_to c (ms0_7 t) (hs0_7 t) ((hs0_7 t).read_unread x7)); iexact H7
  isplitl [H8]; · iapply (own_to c (ms0_8 t) (hs0_8 t) ((hs0_8 t).read_unread x8)); iexact H8
  isplitl [H9]; · iapply (own_to c (ms0_9 t) (hs0_9 t) ((hs0_9 t).read_unread x9)); iexact H9
  isplitl [H10]; · iapply (own_to c (ms0_10 t) (hs0_10 t) ((hs0_10 t).read_unread x10)); iexact H10
  isplitl [H11]; · iapply (own_to c (ms0_11 t) (hs0_11 t) ((hs0_11 t).read_unread x11)); iexact H11
  isplitl [H12]; · iapply (own_to c (ms0_12 t) (hs0_12 t) ((hs0_12 t).read_unread x12)); iexact H12
  isplitl [H13]; · iapply (own_to c (ms0_13 t) (hs0_13 t) ((hs0_13 t).read_unread o)); iexact H13
  isplitl [H14]; · iapply (own_to c scM0_0 (Memref.isWhole_whole _) ((Memref.isWhole_whole _).read_unread kb)); iexact H14
  isplitl [H15]; · iapply (own_to c scM0_1 (Memref.isWhole_whole _) ((Memref.isWhole_whole _).read_unread rr)); iexact H15
  isplitl [H16]; · iapply (own_to c scM0_2 (Memref.isWhole_whole _) ((Memref.isWhole_whole _).read_unread (M 0))); iexact H16
  isplitl [H17]; · iapply (own_to c scM0_3 (Memref.isWhole_whole _) ((Memref.isWhole_whole _).read_unread (M 1))); iexact H17
  isplitl [H18]; · iapply (own_to c scM0_4 (Memref.isWhole_whole _) ((Memref.isWhole_whole _).read_unread (M 2))); iexact H18
  isplitl [H19]; · iapply (own_to c scM0_5 (Memref.isWhole_whole _) ((Memref.isWhole_whole _).read_unread (M 3))); iexact H19
  isplitl [H20]; · iapply (own_to c scM0_6 (Memref.isWhole_whole _) ((Memref.isWhole_whole _).read_unread (M 4))); iexact H20
  isplitl [H21]; · iapply (own_to c scM0_7 (Memref.isWhole_whole _) ((Memref.isWhole_whole _).read_unread (M 5))); iexact H21
  isplitl [H22]; · iapply (own_to c scM0_8 (Memref.isWhole_whole _) ((Memref.isWhole_whole _).read_unread (M 6))); iexact H22
  isplitl [H23]; · iapply (own_to c scM0_9 (Memref.isWhole_whole _) ((Memref.isWhole_whole _).read_unread (M 7))); iexact H23
  isplitl [H24]; · iapply (own_to c scM0_10 (Memref.isWhole_whole _) ((Memref.isWhole_whole _).read_unread (M 8))); iexact H24
  isplitl [H25]; · iapply (own_to c scM0_11 (Memref.isWhole_whole _) ((Memref.isWhole_whole _).read_unread (M 9))); iexact H25
  isplitl [H26]; · iapply (own_to c scM0_12 (Memref.isWhole_whole _) ((Memref.isWhole_whole _).read_unread (M 10))); iexact H26
  isplitl [H27]; · iapply (own_to c scM0_13 (Memref.isWhole_whole _) ((Memref.isWhole_whole _).read_unread (M 11))); iexact H27
  isplitl [H28]; · iapply (own_to c scM0_14 (Memref.isWhole_whole _) ((Memref.isWhole_whole _).read_unread (M 12))); iexact H28
  isplitl [H29]; · iapply (own_to c scM0_15 (Memref.isWhole_whole _) ((Memref.isWhole_whole _).read_unread (M 13))); iexact H29
  isplitl [H30]; · iapply (own_to c scM0_16 (Memref.isWhole_whole _) ((Memref.isWhole_whole _).read_unread (M 14))); iexact H30
  isplitl [H31]; · iapply (own_to c scM0_17 (Memref.isWhole_whole _) ((Memref.isWhole_whole _).read_unread (M 15))); iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iapply (to_own c (ms0_0 t) (hs0_0 t) ((hs0_0 t).read_unread x0)); iexact H0
  isplitl [H1]; · iapply (to_own c (ms0_1 t) (hs0_1 t) ((hs0_1 t).read_unread x1)); iexact H1
  isplitl [H2]; · iapply (to_own c (ms0_2 t) (hs0_2 t) ((hs0_2 t).read_unread x2)); iexact H2
  isplitl [H3]; · iapply (to_own c (ms0_3 t) (hs0_3 t) ((hs0_3 t).read_unread x3)); iexact H3
  isplitl [H4]; · iapply (to_own c (ms0_4 t) (hs0_4 t) ((hs0_4 t).read_unread x4)); iexact H4
  isplitl [H5]; · iapply (to_own c (ms0_5 t) (hs0_5 t) ((hs0_5 t).read_unread x5)); iexact H5
  isplitl [H6]; · iapply (to_own c (ms0_6 t) (hs0_6 t) ((hs0_6 t).read_unread x6)); iexact H6
  isplitl [H7]; · iapply (to_own c (ms0_7 t) (hs0_7 t) ((hs0_7 t).read_unread x7)); iexact H7
  isplitl [H8]; · iapply (to_own c (ms0_8 t) (hs0_8 t) ((hs0_8 t).read_unread x8)); iexact H8
  isplitl [H9]; · iapply (to_own c (ms0_9 t) (hs0_9 t) ((hs0_9 t).read_unread x9)); iexact H9
  isplitl [H10]; · iapply (to_own c (ms0_10 t) (hs0_10 t) ((hs0_10 t).read_unread x10)); iexact H10
  isplitl [H11]; · iapply (to_own c (ms0_11 t) (hs0_11 t) ((hs0_11 t).read_unread x11)); iexact H11
  isplitl [H12]; · iapply (to_own c (ms0_12 t) (hs0_12 t) ((hs0_12 t).read_unread x12)); iexact H12
  isplitl [H13]; · iapply (to_own c (ms0_13 t) (hs0_13 t) ((hs0_13 t).read_unread o)); iexact H13
  isplitl [H14]; · iapply (to_own c scM0_0 (Memref.isWhole_whole _) f1); iexact H14
  isplitl [H15]; · iapply (to_own c scM0_1 (Memref.isWhole_whole _) f2); iexact H15
  isplitl [H16]; · iapply (to_own c scM0_2 (Memref.isWhole_whole _) f3); iexact H16
  isplitl [H17]; · iapply (to_own c scM0_3 (Memref.isWhole_whole _) f4); iexact H17
  isplitl [H18]; · iapply (to_own c scM0_4 (Memref.isWhole_whole _) f5); iexact H18
  isplitl [H19]; · iapply (to_own c scM0_5 (Memref.isWhole_whole _) f6); iexact H19
  isplitl [H20]; · iapply (to_own c scM0_6 (Memref.isWhole_whole _) f7); iexact H20
  isplitl [H21]; · iapply (to_own c scM0_7 (Memref.isWhole_whole _) f8); iexact H21
  isplitl [H22]; · iapply (to_own c scM0_8 (Memref.isWhole_whole _) f9); iexact H22
  isplitl [H23]; · iapply (to_own c scM0_9 (Memref.isWhole_whole _) f10); iexact H23
  isplitl [H24]; · iapply (to_own c scM0_10 (Memref.isWhole_whole _) f11); iexact H24
  isplitl [H25]; · iapply (to_own c scM0_11 (Memref.isWhole_whole _) f12); iexact H25
  isplitl [H26]; · iapply (to_own c scM0_12 (Memref.isWhole_whole _) f13); iexact H26
  isplitl [H27]; · iapply (to_own c scM0_13 (Memref.isWhole_whole _) f14); iexact H27
  isplitl [H28]; · iapply (to_own c scM0_14 (Memref.isWhole_whole _) f15); iexact H28
  isplitl [H29]; · iapply (to_own c scM0_15 (Memref.isWhole_whole _) f16); iexact H29
  isplitl [H30]; · iapply (to_own c scM0_16 (Memref.isWhole_whole _) f17); iexact H30
  iapply (to_own c scM0_17 (Memref.isWhole_whole _) f18); iexact H31

set_option maxHeartbeats 2000000 in
/-- The body at the points from 16 on. -/
theorem stepD (c : Dev nD) (t : Fin cfg0.N) (h0 : ¬cond0_0 (grid0.coords t)) (h1 : ¬cond0_1 (grid0.coords t)) (h2 : ¬cond0_2 (grid0.coords t)) (h3 : cond0_3 (grid0.coords t)) (x0 : Vec F S1x16x1x128x256 .f32) (x1 : Vec F S1x16x1x128x256 .f32) (x2 : Vec F S256x512 .f32) (x3 : Vec F S1x512 .f32) (x4 : Vec F S512x256 .f32) (x5 : Vec F S1x256 .f32) (x6 : Vec F S1x256 .f32) (x7 : Vec F S1x256 .f32) (x8 : Vec F S256x256 .f32) (x9 : Vec F S256x256 .f32) (x10 : Vec F S1x256 .f32) (x11 : Vec F S256x3200 .f32) (x12 : Vec F S1x3200 .f32) (o : Vec F S16x3200 .f32)
    (kb : Vec F S2x2048x256 .f32) (rr : Vec F S16x256 .f32) (M : Fin 16 → Vec F S256x256 .f32) (E : Set ℕ) (K : PUnit → sProp 𝕄) :
    iprop(held c t x0 x1 x2 x3 x4 x5 x6 x7 x8 x9 x10 x11 x12 o kb rr M ∗ (held c t x0 x1 x2 x3 x4 x5 x6 x7 x8 x9 x10 x11 x12 (k0_pay9 rr x11 x12)
      kb
      rr
      M -∗ K ⟨⟩))
      ⊢ wp frame (wpE (defs₀ (F := F)) Variants.none c none) E (bodyAt0 t) K := by
  obtain ⟨L0, f0, h⟩ := runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) h0 h1 h2 h3 x0 x1 x2 x3 x4 x5 x6 x7 x8 x9 x10 x11 x12 o kb rr (M 0) (M 1) (M 2) (M 3) (M 4) (M 5) (M 6) (M 7) (M 8) (M 9) (M 10) (M 11) (M 12) (M 13) (M 14) (M 15)
  unfold held scratch
  iintro ⟨⟨H0, H1, H2, H3, H4, H5, H6, H7, H8, H9, H10, H11, H12, H13, H14, H15, H16, H17, H18, H19, H20, H21, H22, H23, H24, H25, H26, H27, H28, H29, H30, H31⟩, Hk⟩
  iapply (h E K)
  isplitl [H0]; · iapply (own_to c (ms0_0 t) (hs0_0 t) ((hs0_0 t).read_unread x0)); iexact H0
  isplitl [H1]; · iapply (own_to c (ms0_1 t) (hs0_1 t) ((hs0_1 t).read_unread x1)); iexact H1
  isplitl [H2]; · iapply (own_to c (ms0_2 t) (hs0_2 t) ((hs0_2 t).read_unread x2)); iexact H2
  isplitl [H3]; · iapply (own_to c (ms0_3 t) (hs0_3 t) ((hs0_3 t).read_unread x3)); iexact H3
  isplitl [H4]; · iapply (own_to c (ms0_4 t) (hs0_4 t) ((hs0_4 t).read_unread x4)); iexact H4
  isplitl [H5]; · iapply (own_to c (ms0_5 t) (hs0_5 t) ((hs0_5 t).read_unread x5)); iexact H5
  isplitl [H6]; · iapply (own_to c (ms0_6 t) (hs0_6 t) ((hs0_6 t).read_unread x6)); iexact H6
  isplitl [H7]; · iapply (own_to c (ms0_7 t) (hs0_7 t) ((hs0_7 t).read_unread x7)); iexact H7
  isplitl [H8]; · iapply (own_to c (ms0_8 t) (hs0_8 t) ((hs0_8 t).read_unread x8)); iexact H8
  isplitl [H9]; · iapply (own_to c (ms0_9 t) (hs0_9 t) ((hs0_9 t).read_unread x9)); iexact H9
  isplitl [H10]; · iapply (own_to c (ms0_10 t) (hs0_10 t) ((hs0_10 t).read_unread x10)); iexact H10
  isplitl [H11]; · iapply (own_to c (ms0_11 t) (hs0_11 t) ((hs0_11 t).read_unread x11)); iexact H11
  isplitl [H12]; · iapply (own_to c (ms0_12 t) (hs0_12 t) ((hs0_12 t).read_unread x12)); iexact H12
  isplitl [H13]; · iapply (own_to c (ms0_13 t) (hs0_13 t) ((hs0_13 t).read_unread o)); iexact H13
  isplitl [H14]; · iapply (own_to c scM0_0 (Memref.isWhole_whole _) ((Memref.isWhole_whole _).read_unread kb)); iexact H14
  isplitl [H15]; · iapply (own_to c scM0_1 (Memref.isWhole_whole _) ((Memref.isWhole_whole _).read_unread rr)); iexact H15
  isplitl [H16]; · iapply (own_to c scM0_2 (Memref.isWhole_whole _) ((Memref.isWhole_whole _).read_unread (M 0))); iexact H16
  isplitl [H17]; · iapply (own_to c scM0_3 (Memref.isWhole_whole _) ((Memref.isWhole_whole _).read_unread (M 1))); iexact H17
  isplitl [H18]; · iapply (own_to c scM0_4 (Memref.isWhole_whole _) ((Memref.isWhole_whole _).read_unread (M 2))); iexact H18
  isplitl [H19]; · iapply (own_to c scM0_5 (Memref.isWhole_whole _) ((Memref.isWhole_whole _).read_unread (M 3))); iexact H19
  isplitl [H20]; · iapply (own_to c scM0_6 (Memref.isWhole_whole _) ((Memref.isWhole_whole _).read_unread (M 4))); iexact H20
  isplitl [H21]; · iapply (own_to c scM0_7 (Memref.isWhole_whole _) ((Memref.isWhole_whole _).read_unread (M 5))); iexact H21
  isplitl [H22]; · iapply (own_to c scM0_8 (Memref.isWhole_whole _) ((Memref.isWhole_whole _).read_unread (M 6))); iexact H22
  isplitl [H23]; · iapply (own_to c scM0_9 (Memref.isWhole_whole _) ((Memref.isWhole_whole _).read_unread (M 7))); iexact H23
  isplitl [H24]; · iapply (own_to c scM0_10 (Memref.isWhole_whole _) ((Memref.isWhole_whole _).read_unread (M 8))); iexact H24
  isplitl [H25]; · iapply (own_to c scM0_11 (Memref.isWhole_whole _) ((Memref.isWhole_whole _).read_unread (M 9))); iexact H25
  isplitl [H26]; · iapply (own_to c scM0_12 (Memref.isWhole_whole _) ((Memref.isWhole_whole _).read_unread (M 10))); iexact H26
  isplitl [H27]; · iapply (own_to c scM0_13 (Memref.isWhole_whole _) ((Memref.isWhole_whole _).read_unread (M 11))); iexact H27
  isplitl [H28]; · iapply (own_to c scM0_14 (Memref.isWhole_whole _) ((Memref.isWhole_whole _).read_unread (M 12))); iexact H28
  isplitl [H29]; · iapply (own_to c scM0_15 (Memref.isWhole_whole _) ((Memref.isWhole_whole _).read_unread (M 13))); iexact H29
  isplitl [H30]; · iapply (own_to c scM0_16 (Memref.isWhole_whole _) ((Memref.isWhole_whole _).read_unread (M 14))); iexact H30
  isplitl [H31]; · iapply (own_to c scM0_17 (Memref.isWhole_whole _) ((Memref.isWhole_whole _).read_unread (M 15))); iexact H31
  iintro ⟨H0, H1, H2, H3, H4, H5, H6, H7, H8, H9, H10, H11, H12, H13, H14, H15, H16, H17, H18, H19, H20, H21, H22, H23, H24, H25, H26, H27, H28, H29, H30, H31⟩
  iapply Hk
  isplitl [H0]; · iapply (to_own c (ms0_0 t) (hs0_0 t) ((hs0_0 t).read_unread x0)); iexact H0
  isplitl [H1]; · iapply (to_own c (ms0_1 t) (hs0_1 t) ((hs0_1 t).read_unread x1)); iexact H1
  isplitl [H2]; · iapply (to_own c (ms0_2 t) (hs0_2 t) ((hs0_2 t).read_unread x2)); iexact H2
  isplitl [H3]; · iapply (to_own c (ms0_3 t) (hs0_3 t) ((hs0_3 t).read_unread x3)); iexact H3
  isplitl [H4]; · iapply (to_own c (ms0_4 t) (hs0_4 t) ((hs0_4 t).read_unread x4)); iexact H4
  isplitl [H5]; · iapply (to_own c (ms0_5 t) (hs0_5 t) ((hs0_5 t).read_unread x5)); iexact H5
  isplitl [H6]; · iapply (to_own c (ms0_6 t) (hs0_6 t) ((hs0_6 t).read_unread x6)); iexact H6
  isplitl [H7]; · iapply (to_own c (ms0_7 t) (hs0_7 t) ((hs0_7 t).read_unread x7)); iexact H7
  isplitl [H8]; · iapply (to_own c (ms0_8 t) (hs0_8 t) ((hs0_8 t).read_unread x8)); iexact H8
  isplitl [H9]; · iapply (to_own c (ms0_9 t) (hs0_9 t) ((hs0_9 t).read_unread x9)); iexact H9
  isplitl [H10]; · iapply (to_own c (ms0_10 t) (hs0_10 t) ((hs0_10 t).read_unread x10)); iexact H10
  isplitl [H11]; · iapply (to_own c (ms0_11 t) (hs0_11 t) ((hs0_11 t).read_unread x11)); iexact H11
  isplitl [H12]; · iapply (to_own c (ms0_12 t) (hs0_12 t) ((hs0_12 t).read_unread x12)); iexact H12
  isplitl [H13]; · iapply (to_own c (ms0_13 t) (hs0_13 t) f0); iexact H13
  isplitl [H14]; · iapply (to_own c scM0_0 (Memref.isWhole_whole _) ((Memref.isWhole_whole _).read_unread kb)); iexact H14
  isplitl [H15]; · iapply (to_own c scM0_1 (Memref.isWhole_whole _) ((Memref.isWhole_whole _).read_unread rr)); iexact H15
  isplitl [H16]; · iapply (to_own c scM0_2 (Memref.isWhole_whole _) ((Memref.isWhole_whole _).read_unread (M 0))); iexact H16
  isplitl [H17]; · iapply (to_own c scM0_3 (Memref.isWhole_whole _) ((Memref.isWhole_whole _).read_unread (M 1))); iexact H17
  isplitl [H18]; · iapply (to_own c scM0_4 (Memref.isWhole_whole _) ((Memref.isWhole_whole _).read_unread (M 2))); iexact H18
  isplitl [H19]; · iapply (to_own c scM0_5 (Memref.isWhole_whole _) ((Memref.isWhole_whole _).read_unread (M 3))); iexact H19
  isplitl [H20]; · iapply (to_own c scM0_6 (Memref.isWhole_whole _) ((Memref.isWhole_whole _).read_unread (M 4))); iexact H20
  isplitl [H21]; · iapply (to_own c scM0_7 (Memref.isWhole_whole _) ((Memref.isWhole_whole _).read_unread (M 5))); iexact H21
  isplitl [H22]; · iapply (to_own c scM0_8 (Memref.isWhole_whole _) ((Memref.isWhole_whole _).read_unread (M 6))); iexact H22
  isplitl [H23]; · iapply (to_own c scM0_9 (Memref.isWhole_whole _) ((Memref.isWhole_whole _).read_unread (M 7))); iexact H23
  isplitl [H24]; · iapply (to_own c scM0_10 (Memref.isWhole_whole _) ((Memref.isWhole_whole _).read_unread (M 8))); iexact H24
  isplitl [H25]; · iapply (to_own c scM0_11 (Memref.isWhole_whole _) ((Memref.isWhole_whole _).read_unread (M 9))); iexact H25
  isplitl [H26]; · iapply (to_own c scM0_12 (Memref.isWhole_whole _) ((Memref.isWhole_whole _).read_unread (M 10))); iexact H26
  isplitl [H27]; · iapply (to_own c scM0_13 (Memref.isWhole_whole _) ((Memref.isWhole_whole _).read_unread (M 11))); iexact H27
  isplitl [H28]; · iapply (to_own c scM0_14 (Memref.isWhole_whole _) ((Memref.isWhole_whole _).read_unread (M 12))); iexact H28
  isplitl [H29]; · iapply (to_own c scM0_15 (Memref.isWhole_whole _) ((Memref.isWhole_whole _).read_unread (M 13))); iexact H29
  isplitl [H30]; · iapply (to_own c scM0_16 (Memref.isWhole_whole _) ((Memref.isWhole_whole _).read_unread (M 14))); iexact H30
  iapply (to_own c scM0_17 (Memref.isWhole_whole _) ((Memref.isWhole_whole _).read_unread (M 15))); iexact H31

end Cert.KernelIdeal.Gen

end
-- ==== Proof.KI.Frame.lean ====
/- The launch of the kernel: what the key buffer, the memories and the output hold at every point, and the frame. -/
module

public import proofs.«01_k».proof.Proof.KI.Step
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of number `n`. -/
def pt (n : ℕ) : Fin cfg0.N := ⟨n % 26, lt_of_lt_of_eq (Nat.mod_lt n (by decide)) (show 26 = cfg0.N from N_0.symm)⟩

/-- A point is the point of its number. -/
theorem pt_val (t : Fin cfg0.N) : pt t.val = t :=
  Fin.ext (Nat.mod_eq_of_lt (lt_of_lt_of_eq t.isLt (show cfg0.N = 26 from N_0)))

/-- The key block of the chunk of number `n`: the first is made from the first window, each other one a point early from the second. -/
def keyAt (c : Dev nD) : ℕ → Vec F S1x2048x256 .f32
  | 0 => keyBlock (iblk m c 0 (pt 0)) (iblk m c 2 (pt 0)) (iblk m c 3 (pt 0)) (iblk m c 4 (pt 0)) (iblk m c 5 (pt 0)) (iblk m c 6 (pt 0)) (iblk m c 7 (pt 0)) (iblk m c 8 (pt 0))
  | n + 1 => keyBlock (iblk m c 1 (pt n)) (iblk m c 2 (pt n)) (iblk m c 3 (pt n)) (iblk m c 4 (pt n)) (iblk m c 5 (pt n)) (iblk m c 6 (pt n)) (iblk m c 7 (pt n)) (iblk m c 8 (pt n))

/-- Head `g`'s memory after the first `n` chunks. -/
def memAt (c : Dev nD) : ℕ → Fin 16 → Vec F S256x256 .f32
  | 0, _ => zeroMem
  | n + 1, g => headStep (BitVec.ofNat 32 n) (headRows g (keyAt m c n)) (memAt c n g)

/-- The read-out rows, from the memories after the last chunk. -/
def rrAt (c : Dev nD) : Vec F S16x256 .f32 :=
  readOut (fun g => headRows g (keyAt m c 15)) (memAt m c 16) (iblk m c 9 (pt 15)) (iblk m c 10 (pt 15))

/-- What the scratch buffers hold before point `n`: while chunks are read, the current chunk's keys and the memories so far; after that, the read-out rows. -/
def Inv (c : Dev nD) (n : ℕ) (kb : Vec F S2x2048x256 .f32) (rr : Vec F S16x256 .f32) (M : Fin 16 → Vec F S256x256 .f32) : Prop :=
  (1 ≤ n → n < 16 → slotRead kb (slotOf n) = keyAt m c n ∧ M = memAt m c n) ∧ (16 ≤ n → rr = rrAt m c)

/-- The number of a point is its second coordinate. -/
theorem coord_val (t : Fin cfg0.N) : (grid0.coords t 1).val = t.val := by
  have h : (grid0.coords t 1).val = t.val / 1 % 26 := Pipeline.Grid.coords_val t 1 (by decide) rfl
  have hN : t.val < 26 := lt_of_lt_of_eq t.isLt (show cfg0.N = 26 from N_0)
  rw [h, Nat.div_one, Nat.mod_eq_of_lt hN]

/-- A slot just written reads back what was written. -/
theorem slotRead_put (kb : Vec F S2x2048x256 .f32) (o : Fin 2) (w : Vec F S1x2048x256 .f32) : slotRead (slotPut kb o w) o = w :=
  VecWindow.window_put_same ..

/-- The invariant of the scratch buffers before point `n`. -/
def PhiK (c : Dev nD) (n : ℕ) : sProp 𝕄 :=
  iprop((∃ kb rr M, ⌜Inv m c n kb rr M⌝ ∗ scratch c kb rr M) ∗ (∃ r, prngReg c r))

/-- The proof data of the pipeline on core `c`: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => k0_pay9 (rrAt m c) (iblk m c 11 t) (iblk m c 12 t)
  Φ t := PhiK m c t.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves and finds in each input's buffer: the window's block. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-! The body leaves each input's buffer at its block. -/

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

/-- What the body leaves in the output's buffer. -/
theorem after0_13 (c : Dev nD) (t : Fin cfg0.N) : (dats m 0 c).after 13 t = k0_pay9 (rrAt m c) (iblk m c 11 t) (iblk m c 12 t) := by dsimp only [dats]

/-- What is left to show once the scratch buffers' new contents keep the invariant and the output's buffer is as it must be. -/
theorem close (c : Dev nD) (t : Fin cfg0.N) (o : Vec F S16x3200 .f32) (kb : Vec F S2x2048x256 .f32) (rr : Vec F S16x256 .f32)
    (M : Fin 16 → Vec F S256x256 .f32) (hI : Inv m c (t.val + 1) kb rr M)
    (ho : owns (c : Thread nD τ) (ms0_13 t) fullShare o ⊢ (dats m 0 c).leavesExact 13 t) :
    iprop(held c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) o kb rr M ∗ (∃ r, prngReg c r) ∗ (dats m 0 c).owesAt () t.castSucc) ⊢ bodyPost m c t := by
  unfold bodyPost held
  rw [leaves0_0, leaves0_1, leaves0_2, leaves0_3, leaves0_4, leaves0_5, leaves0_6, leaves0_7, leaves0_8, leaves0_9, leaves0_10, leaves0_11, leaves0_12,
    show (dats m 0 c).owesAt () t.succ = (dats m 0 c).owesAt () t.castSucc from rfl,
    show (dats m 0 c).Φ t.succ = PhiK m c (t.val + 1) from rfl]
  unfold PhiK
  iintro ⟨⟨H0, H1, H2, H3, H4, H5, H6, H7, H8, H9, H10, H11, H12, H13, HS⟩, Hg, Ho⟩
  isplitl [HS Hg]
  · isplitl [HS]
    · iexists kb, rr, M
      isplitr
      · ipureintro; exact hI
      · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply ho
  iexact H13

/-- While the output window is idle its buffer is handed back as it was found. -/
theorem idle13 (c : Dev nD) (t : Fin cfg0.N) (hi : cfg0.idle 13 (grid0.coords t) = true) (hf : (cfg0.win 13).flush t = false) (d : Vec F S16x3200 .f32) :
    owns (c : Thread nD τ) (ms0_13 t) fullShare ((dats m 0 c).before 13 t d) ⊢ (dats m 0 c).leavesExact 13 t := by
  rw [(dats m 0 c).leavesExact_idle 13 t hi hf]
  iintro H
  iexists d
  iexact H

/-- The invariant from one chunk to the next. -/
theorem inv_next (c : Dev nD) (n : ℕ) (hn : n < 15) (kb : Vec F S2x2048x256 .f32) (rr : Vec F S16x256 .f32) (M : Fin 16 → Vec F S256x256 .f32)
    (hk : slotRead kb (slotOf (n + 1)) = keyAt m c (n + 1)) (hM : M = memAt m c (n + 1)) : Inv m c (n + 1) kb rr M :=
  ⟨fun _ _ => ⟨hk, hM⟩, fun h => absurd h (by omega)⟩

/-- What a step of the body must give. -/
def stepGoal (c : Dev nD) (t : Fin cfg0.N) : Prop :=
  ∀ (kb : Vec F S2x2048x256 .f32) (rr : Vec F S16x256 .f32) (M : Fin 16 → Vec F S256x256 .f32) (d : Vec F S16x3200 .f32), Inv m c t.val kb rr M →
    iprop(held c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d) kb rr M ∗ (∃ r, prngReg c r) ∗ (dats m 0 c).owesAt () t.castSucc)
      ⊢ wp frame (wpE (defs₀ (F := F)) Variants.none c none) Set.univ (bodyAt0 t) (fun _ => bodyPost m c t)

/-- The step of the body at the first point. -/
theorem goalA (c : Dev nD) (t : Fin cfg0.N) (h0 : cond0_0 (grid0.coords t)) (h1 : cond0_1 (grid0.coords t)) (h2 : ¬cond0_2 (grid0.coords t)) (h3 : ¬cond0_3 (grid0.coords t)) : stepGoal m c t := by
  intro kb rr M d hI
  have hN : t.val < 26 := lt_of_lt_of_eq t.isLt (show cfg0.N = 26 from N_0)
  have h : t.val = 0 := by have := (hcond0_0 t).mp h0; omega
  have hp : pt 0 = t := by rw [← h]; exact pt_val t
  have ho := idle13 m c t (idleAt0_13_A t h0 h1 h2 h3) (noFlush0_13_A t h0 h1 h2 h3) d
  have hI' := inv_next m c t.val (by omega)
    (slotPut (slotPut kb 0 (keyBlock (iblk m c 0 t) (iblk m c 2 t) (iblk m c 3 t) (iblk m c 4 t) (iblk m c 5 t) (iblk m c 6 t) (iblk m c 7 t) (iblk m c 8 t))) 1 (keyBlock (iblk m c 1 t) (iblk m c 2 t) (iblk m c 3 t) (iblk m c 4 t) (iblk m c 5 t) (iblk m c 6 t) (iblk m c 7 t) (iblk m c 8 t)))
    rr (fun g => headStep (BitVec.ofNat 32 (grid0.coords t 1).val) (headRows g (keyBlock (iblk m c 0 t) (iblk m c 2 t) (iblk m c 3 t) (iblk m c 4 t) (iblk m c 5 t) (iblk m c 6 t) (iblk m c 7 t) (iblk m c 8 t))) zeroMem)
    (by rw [h]; exact (slotRead_put _ _ _).trans (by rw [keyAt, hp])) (by rw [coord_val, h]; funext g; rw [memAt, keyAt, hp]; rfl)
  refine BIBase.Entails.trans ?_ (stepA c t h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d) kb rr M Set.univ _)
  iintro ⟨H, Hg, Ho⟩
  isplitl [H]; · iexact H
  iintro H
  iapply (close m c t _ _ _ _ hI' ho)
  isplitl [H]; · iexact H
  isplitl [Hg]; · iexact Hg
  iexact Ho

/-- The step of the body at the points 1 to 14. -/
theorem goalB (c : Dev nD) (t : Fin cfg0.N) (h0 : ¬cond0_0 (grid0.coords t)) (h1 : cond0_1 (grid0.coords t)) (h2 : ¬cond0_2 (grid0.coords t)) (h3 : ¬cond0_3 (grid0.coords t)) : stepGoal m c t := by
  intro kb rr M d hI
  have hN : t.val < 26 := lt_of_lt_of_eq t.isLt (show cfg0.N = 26 from N_0)
  have hlt := (hcond0_1 t).mp h1
  have hne : t.val ≠ 0 := fun h => h0 ((hcond0_0 t).mpr (by omega))
  have hne' : t.val ≠ 15 := fun h => h2 ((hcond0_2 t).mpr (by omega))
  obtain ⟨hk, hM⟩ := hI.1 (by omega) hlt
  have hp := pt_val t
  have ho := idle13 m c t (idleAt0_13_B t h0 h1 h2 h3) (noFlush0_13_B t h0 h1 h2 h3) d
  have hI' := inv_next m c t.val (by omega) (slotPut kb (slotOf ((grid0.coords t 1).val + 1)) (keyBlock (iblk m c 1 t) (iblk m c 2 t) (iblk m c 3 t) (iblk m c 4 t) (iblk m c 5 t) (iblk m c 6 t) (iblk m c 7 t) (iblk m c 8 t))) rr
    (fun g => headStep (BitVec.ofNat 32 (grid0.coords t 1).val) (headRows g (slotRead kb (slotOf (grid0.coords t 1).val))) (M g))
    (by rw [coord_val]; exact (slotRead_put _ _ _).trans (by rw [keyAt, hp])) (by rw [coord_val, hk, hM]; funext g; rw [memAt])
  refine BIBase.Entails.trans ?_ (stepB c t h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d) kb rr M Set.univ _)
  iintro ⟨H, Hg, Ho⟩
  isplitl [H]; · iexact H
  iintro H
  iapply (close m c t _ _ _ _ hI' ho)
  isplitl [H]; · iexact H
  isplitl [Hg]; · iexact Hg
  iexact Ho

/-- The step of the body at point 15. -/
theorem goalC (c : Dev nD) (t : Fin cfg0.N) (h0 : ¬cond0_0 (grid0.coords t)) (h1 : cond0_1 (grid0.coords t)) (h2 : cond0_2 (grid0.coords t)) (h3 : ¬cond0_3 (grid0.coords t)) : stepGoal m c t := by
  intro kb rr M d hI
  have hN : t.val < 26 := lt_of_lt_of_eq t.isLt (show cfg0.N = 26 from N_0)
  have hlt := (hcond0_1 t).mp h1
  have h15 : t.val = 15 := by have := (hcond0_2 t).mp h2; omega
  obtain ⟨hk, hM⟩ := hI.1 (by omega) hlt
  have hp : pt 15 = t := by rw [← h15]; exact pt_val t
  have ho := idle13 m c t (idleAt0_13_C t h0 h1 h2 h3) (noFlush0_13_C t h0 h1 h2 h3) d
  have hI' : Inv m c (t.val + 1) (slotPut kb (slotOf ((grid0.coords t 1).val + 1)) (keyBlock (iblk m c 1 t) (iblk m c 2 t) (iblk m c 3 t) (iblk m c 4 t) (iblk m c 5 t) (iblk m c 6 t) (iblk m c 7 t) (iblk m c 8 t)))
      (readOut (fun g => headRows g (slotRead kb (slotOf (grid0.coords t 1).val)))
        (fun g => headStep (BitVec.ofNat 32 (grid0.coords t 1).val) (headRows g (slotRead kb (slotOf (grid0.coords t 1).val))) (M g)) (iblk m c 9 t) (iblk m c 10 t))
      (fun g => headStep (BitVec.ofNat 32 (grid0.coords t 1).val) (headRows g (slotRead kb (slotOf (grid0.coords t 1).val))) (M g)) :=
    ⟨fun _ h => absurd h (by omega), fun _ => by
      have hM' : (fun g => headStep (BitVec.ofNat 32 15) (headRows g (keyAt m c 15)) (memAt m c 15 g)) = memAt m c 16 := by
        funext g; rfl
      rw [coord_val, hk, hM, h15, hM', rrAt, hp]⟩
  refine BIBase.Entails.trans ?_ (stepC c t h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d) kb rr M Set.univ _)
  iintro ⟨H, Hg, Ho⟩
  isplitl [H]; · iexact H
  iintro H
  iapply (close m c t _ _ _ _ hI' ho)
  isplitl [H]; · iexact H
  isplitl [Hg]; · iexact Hg
  iexact Ho

/-- The step of the body at the points from 16 on. -/
theorem goalD (c : Dev nD) (t : Fin cfg0.N) (h0 : ¬cond0_0 (grid0.coords t)) (h1 : ¬cond0_1 (grid0.coords t)) (h2 : ¬cond0_2 (grid0.coords t)) (h3 : cond0_3 (grid0.coords t)) : stepGoal m c t := by
  intro kb rr M d hI
  have hN : t.val < 26 := lt_of_lt_of_eq t.isLt (show cfg0.N = 26 from N_0)
  have hge := (hcond0_3 t).mp h3
  have hrr := hI.2 hge
  have ho : owns (c : Thread nD τ) (ms0_13 t) fullShare (k0_pay9 rr (iblk m c 11 t) (iblk m c 12 t)) ⊢ (dats m 0 c).leavesExact 13 t := by
    rw [hrr]; unfold Dat.leavesExact; rw [liveAt0_13_D t h0 h1 h3, after0_13]
  have hI' : Inv m c (t.val + 1) kb rr M := ⟨fun _ h => absurd h (by omega), fun _ => hrr⟩
  refine BIBase.Entails.trans ?_ (stepD c t h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d) kb rr M Set.univ _)
  iintro ⟨H, Hg, Ho⟩
  isplitl [H]; · iexact H
  iintro H
  iapply (close m c t _ _ _ _ hI' ho)
  isplitl [H]; · iexact H
  isplitl [Hg]; · iexact Hg
  iexact Ho

/-- The body at any point, from the theorem of its case. -/
theorem sound_body (c : Dev nD) (t : Fin cfg0.N) :
    bodyPre m c t ⊢ wp frame (wpE (defs₀ (F := F)) Variants.none c none) Set.univ (bodyAt0 t) (fun _ => bodyPost m c t) := by
  have hstep : stepGoal m c t := by
    have hN : t.val < 26 := lt_of_lt_of_eq t.isLt (show cfg0.N = 26 from N_0)
    by_cases h1 : t.val < 16
    · have h3 : ¬cond0_3 (grid0.coords t) := fun h => absurd ((hcond0_3 t).mp h) (by omega)
      by_cases h0 : t.val % 26 = 0
      · exact goalA m c t ((hcond0_0 t).mpr h0) ((hcond0_1 t).mpr h1) (fun h => absurd ((hcond0_2 t).mp h) (by omega)) h3
      · by_cases h2 : t.val % 26 = 15
        · exact goalC m c t (fun h => h0 ((hcond0_0 t).mp h)) ((hcond0_1 t).mpr h1) ((hcond0_2 t).mpr h2) h3
        · exact goalB m c t (fun h => h0 ((hcond0_0 t).mp h)) ((hcond0_1 t).mpr h1) (fun h => h2 ((hcond0_2 t).mp h)) h3
    · exact goalD m c t (fun h => absurd ((hcond0_0 t).mp h) (by omega)) (fun h => h1 ((hcond0_1 t).mp h))
        (fun h => absurd ((hcond0_2 t).mp h) (by omega)) ((hcond0_3 t).mpr (by omega))
  unfold bodyPre
  simp only [before0_0, before0_1, before0_2, before0_3, before0_4, before0_5, before0_6, before0_7, before0_8, before0_9, before0_10, before0_11, before0_12]
  rw [show (dats m 0 c).Φ t.castSucc = PhiK m c t.val from rfl]
  unfold PhiK
  iintro ⟨⟨⟨%kb, %rr, %M, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (hstep kb rr M d13 hI)
  isplitl [H0 H1 H2 H3 H4 H5 H6 H7 H8 H9 H10 H11 H12 H13 HS]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS
  isplitl [Hg]; · iexact Hg
  iexact Ho

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [PhiA0_eq, show (dats m 0 c).Φ 0 = PhiK m c 0 from rfl]
  unfold PhiK scratch
  iintro ⟨⟨⟨%kb, HS0⟩, ⟨%rr, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩, ⟨%e11, HS11⟩, ⟨%e12, HS12⟩, ⟨%e13, HS13⟩, ⟨%e14, HS14⟩, ⟨%e15, HS15⟩, ⟨%e16, HS16⟩, ⟨%e17, HS17⟩⟩, Hg⟩
  isplitl [HS0 HS1 HS2 HS3 HS4 HS5 HS6 HS7 HS8 HS9 HS10 HS11 HS12 HS13 HS14 HS15 HS16 HS17]
  · iexists kb, rr, ![e2, e3, e4, e5, e6, e7, e8, e9, e10, e11, e12, e13, e14, e15, e16, e17]
    isplitr
    · ipureintro; exact ⟨fun h => absurd h (by omega), fun h => absurd h (by omega)⟩
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    iexact HS17
  iexact Hg

/-- The invariant after the last point gives back what the launch handed the region. -/
theorem hout (c : Dev nD) : (dats m 0 c).Φ (Fin.last cfg0.N) ⊢ Pipeline.ΦA spec0 c := by
  rw [PhiA0_eq, show (dats m 0 c).Φ (Fin.last cfg0.N) = PhiK m c cfg0.N from rfl]
  unfold PhiK scratch
  iintro ⟨⟨%kb, %rr, %M, %hI, HS0, HS1, HS2, HS3, HS4, HS5, HS6, HS7, HS8, HS9, HS10, HS11, HS12, HS13, HS14, HS15, HS16, HS17⟩, Hg⟩
  isplitl [HS0 HS1 HS2 HS3 HS4 HS5 HS6 HS7 HS8 HS9 HS10 HS11 HS12 HS13 HS14 HS15 HS16 HS17]
  · isplitl [HS0]; · iexists kb; iexact HS0
    isplitl [HS1]; · iexists rr; iexact HS1
    isplitl [HS2]; · iexists (M 0); iexact HS2
    isplitl [HS3]; · iexists (M 1); iexact HS3
    isplitl [HS4]; · iexists (M 2); iexact HS4
    isplitl [HS5]; · iexists (M 3); iexact HS5
    isplitl [HS6]; · iexists (M 4); iexact HS6
    isplitl [HS7]; · iexists (M 5); iexact HS7
    isplitl [HS8]; · iexists (M 6); iexact HS8
    isplitl [HS9]; · iexists (M 7); iexact HS9
    isplitl [HS10]; · iexists (M 8); iexact HS10
    isplitl [HS11]; · iexists (M 9); iexact HS11
    isplitl [HS12]; · iexists (M 10); iexact HS12
    isplitl [HS13]; · iexists (M 11); iexact HS13
    isplitl [HS14]; · iexists (M 12); iexact HS14
    isplitl [HS15]; · iexists (M 13); iexact HS15
    isplitl [HS16]; · iexists (M 14); iexact HS16
    iexists (M 15); iexact HS17
  iexact Hg

set_option backward.isDefEq.respectTransparency.types false in
/-- The launch: every execution ends with the pipeline's arrays as its proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ))
    ((θ_run defs _ _).mono (fun _ h => h.2) (run_main_quiescent m ρ))

end Cert.KernelIdeal.Gen

end
-- ==== Proof.Math.lean ====
/- The delta rule: the sequential update of a memory, one key at a time, against the update of a block of keys at once
   through the inverse of a lower triangular matrix; and both over the extended reals, where a key with an infinite entry
   has unit row zero and changes nothing. -/
module

public import Idealize.ShloMosaic.PureOps.Ideal
public import Mathlib.LinearAlgebra.Matrix.NonsingularInverse

@[expose] public section

noncomputable section

namespace Cert.Delta

open Idealize.ShloMosaic
open scoped BigOperators

/-! ## Newton steps towards the inverse of a unit lower triangular matrix -/

/-- One Newton step towards the inverse of `1 + A`. -/
def newtonR {n : ℕ} (A T : Matrix (Fin n) (Fin n) ℝ) : Matrix (Fin n) (Fin n) ℝ := T + T * (1 - T - A * T)

/-- Six Newton steps from `1 - A`. -/
def invR {n : ℕ} (A : Matrix (Fin n) (Fin n) ℝ) : Matrix (Fin n) (Fin n) ℝ :=
  newtonR A (newtonR A (newtonR A (newtonR A (newtonR A (newtonR A (1 - A))))))

/-- A Newton step squares the residual. -/
theorem newton_resid {n : ℕ} (A T E : Matrix (Fin n) (Fin n) ℝ) (h : (1 + A) * T = 1 - E) : (1 + A) * newtonR A T = 1 - E * E := by
  have h' : 1 - T - A * T = E := by
    have : (1 + A) * T = T + A * T := by rw [add_mul, one_mul]
    rw [this] at h
    rw [sub_sub, h, sub_sub_cancel]
  rw [newtonR, h', mul_add, ← mul_assoc, h]
  noncomm_ring

/-- The powers of a strictly lower triangular matrix move down the diagonals. -/
theorem pow_lower {n : ℕ} (A : Matrix (Fin n) (Fin n) ℝ) (hA : ∀ i j : Fin n, i.val ≤ j.val → A i j = 0) :
    ∀ (k : ℕ) (i j : Fin n), i.val < j.val + k → (A ^ k) i j = 0
  | 0, i, j, h => by rw [pow_zero, Matrix.one_apply_ne (fun e => by subst e; omega)]
  | k + 1, i, j, h => by
    rw [pow_succ, Matrix.mul_apply]
    refine Finset.sum_eq_zero fun l _ => ?_
    by_cases hl : l.val ≤ j.val
    · rw [hA l j hl, mul_zero]
    · rw [pow_lower A hA k i l (by omega), zero_mul]

/-- The six Newton steps reach the inverse at size 128. -/
theorem invR_spec (A : Matrix (Fin 128) (Fin 128) ℝ) (hA : ∀ i j : Fin 128, i.val ≤ j.val → A i j = 0) : (1 + A) * invR A = 1 := by
  have h0 : (1 + A) * (1 - A) = 1 - A ^ 2 := by rw [pow_two]; noncomm_ring
  have h1 := newton_resid _ _ _ h0
  have h2 := newton_resid _ _ _ h1
  have h3 := newton_resid _ _ _ h2
  have h4 := newton_resid _ _ _ h3
  have h5 := newton_resid _ _ _ h4
  have h6 := newton_resid _ _ _ h5
  simp only [← pow_add] at h6
  have hz : A ^ 128 = 0 := by
    ext i j
    exact pow_lower A hA 128 i j (by have := i.isLt; omega)
  rw [show (2 + 2 + (2 + 2) + (2 + 2 + (2 + 2)) + (2 + 2 + (2 + 2) + (2 + 2 + (2 + 2))) + (2 + 2 + (2 + 2) + (2 + 2 + (2 + 2)) + (2 + 2 + (2 + 2) + (2 + 2 + (2 + 2))))
    + (2 + 2 + (2 + 2) + (2 + 2 + (2 + 2)) + (2 + 2 + (2 + 2) + (2 + 2 + (2 + 2))) + (2 + 2 + (2 + 2) + (2 + 2 + (2 + 2)) + (2 + 2 + (2 + 2) + (2 + 2 + (2 + 2)))))) = 128 from rfl, hz, sub_zero] at h6
  exact h6

/-! ## The sequential rule and the block rule over the reals -/

/-- The memory after `t` keys `κ` with unit rows `w`, one at a time. -/
def seqR {d : ℕ} (κ w : ℕ → Fin d → ℝ) : ℕ → Fin d → Fin d → ℝ
  | 0 => fun _ _ => 0
  | t + 1 => fun a b => seqR κ w t a b + (κ t a - ∑ j, seqR κ w t a j * w t j) * w t b

/-- The products of a block's unit rows with each other, below the diagonal. -/
def gramR {d : ℕ} (n : ℕ) (w : Fin n → Fin d → ℝ) : Matrix (Fin n) (Fin n) ℝ :=
  fun i j => if j.val < i.val then ∑ b, w i b * w j b else 0

/-- The rows that a block writes: the inverse applied to what the memory so far leaves of the keys. -/
def blockRows {n d : ℕ} (T : Matrix (Fin n) (Fin n) ℝ) (κ w : Fin n → Fin d → ℝ) (M : Fin d → Fin d → ℝ) : Fin n → Fin d → ℝ :=
  fun k a => ∑ j, T k j * (κ j a - ∑ b, w j b * M a b)

/-- The rows written solve the triangular system. -/
theorem blockRows_eq {n d : ℕ} (T : Matrix (Fin n) (Fin n) ℝ) (κ w : Fin n → Fin d → ℝ) (M : Fin d → Fin d → ℝ)
    (hT : (1 + gramR n w) * T = 1) (i : Fin n) (a : Fin d) :
    blockRows T κ w M i a = κ i a - (∑ b, w i b * M a b) - ∑ j, gramR n w i j * blockRows T κ w M j a := by
  let v : Fin n → ℝ := fun j => κ j a - ∑ b, w j b * M a b
  have hU : (fun j => blockRows T κ w M j a) = T.mulVec v := rfl
  have h : (1 + gramR n w).mulVec (T.mulVec v) = v := by rw [Matrix.mulVec_mulVec, hT, Matrix.one_mulVec]
  rw [← hU, Matrix.add_mulVec, Matrix.one_mulVec] at h
  have hi := congrFun h i
  have : (fun j => blockRows T κ w M j a) i + ∑ j, gramR n w i j * blockRows T κ w M j a = v i := hi
  show blockRows T κ w M i a = v i - _
  rw [← this]; ring

/-- A block of `n` keys at once is the `n` keys one at a time. -/
theorem seqR_block {n d : ℕ} (κ w : ℕ → Fin d → ℝ) (s : ℕ) (T : Matrix (Fin n) (Fin n) ℝ)
    (hT : (1 + gramR n fun i => w (s + i.val)) * T = 1) (a b : Fin d) :
    seqR κ w (s + n) a b = seqR κ w s a b
      + ∑ k, blockRows T (fun i => κ (s + i.val)) (fun i => w (s + i.val)) (seqR κ w s) k a * w (s + k.val) b := by
  let U := blockRows T (fun i => κ (s + i.val)) (fun i => w (s + i.val)) (seqR κ w s)
  have key : ∀ m, m ≤ n → ∀ a b, seqR κ w (s + m) a b = seqR κ w s a b + ∑ k : Fin n, if k.val < m then U k a * w (s + k.val) b else 0 := by
    intro m
    induction m with
    | zero => intro _ a b; simp
    | succ m ih =>
      intro hm a b
      have ih' := ih (by omega)
      let i : Fin n := ⟨m, hm⟩
      have hdv : κ (s + m) a - ∑ j, seqR κ w (s + m) a j * w (s + m) j = U i a := by
        rw [show U i a = _ from blockRows_eq T _ _ _ hT i a]
        have : ∑ j, seqR κ w (s + m) a j * w (s + m) j
            = (∑ j, w (s + m) j * seqR κ w s a j) + ∑ k, gramR n (fun i => w (s + i.val)) i k * U k a := by
          simp only [ih', add_mul, Finset.sum_add_distrib]
          congr 1
          · exact Finset.sum_congr rfl fun j _ => mul_comm _ _
          · simp only [Finset.sum_mul]
            rw [Finset.sum_comm]
            refine Finset.sum_congr rfl fun k _ => ?_
            show _ = (if k.val < m then _ else 0) * _
            by_cases hk : k.val < m
            · simp only [hk, if_true, Finset.sum_mul]
              exact Finset.sum_congr rfl fun j _ => by show _ = w (s + m) j * _ * _; ring
            · simp [hk]
        rw [this]
        show _ = κ (s + m) a - _ - _
        ring
      rw [show s + (m + 1) = (s + m) + 1 from rfl, seqR]
      simp only [hdv]
      rw [ih', add_assoc]
      congr 1
      rw [show U i a * w (s + m) b = ∑ k : Fin n, if k.val = m then U k a * w (s + k.val) b else 0 from ?_, ← Finset.sum_add_distrib]
      · refine Finset.sum_congr rfl fun k _ => ?_
        by_cases h1 : k.val < m
        · rw [if_pos h1, if_neg (by omega), if_pos (by omega), add_zero]
        · by_cases h2 : k.val = m
          · rw [if_neg h1, if_pos h2, if_pos (by omega), zero_add]
          · rw [if_neg h1, if_neg h2, if_neg (by omega), add_zero]
      · rw [Finset.sum_eq_single i]
        · rw [if_pos rfl]
        · intro k _ hk
          rw [if_neg (fun e => hk (Fin.ext e))]
        · intro h; exact absurd (Finset.mem_univ _) h
  have h := key n le_rfl a b
  rw [h]
  congr 1
  exact Finset.sum_congr rfl fun k _ => if_pos k.isLt

/-! ## Over the extended reals -/

/-- A sum of reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row divided by its Euclidean norm, the norm kept above `e`. -/
def unitRow {d : ℕ} (e : EReal) (k : Fin d → EReal) (j : Fin d) : EReal :=
  Ideal.div (k j) (max (Ideal.sqrt (∑ i, k i * k i)) e)

/-- A square is at least zero. -/
theorem sq_nonneg' (x : EReal) : 0 ≤ x * x := by
  induction x using EReal.rec with
  | bot => simp
  | top => simp
  | coe r => rw [← EReal.coe_mul]; exact_mod_cast mul_self_nonneg r

/-- Every row has a real unit row; where the row itself is not real, its unit row is zero. -/
theorem unitRow_real {d : ℕ} (e : ℝ) (he : 0 < e) (k : Fin d → EReal) :
    ∃ κ w : Fin d → ℝ, (∀ j, unitRow (e : EReal) k j = (w j : EReal)) ∧ ((∀ j, w j = 0) ∨ ∀ j, k j = (κ j : EReal)) := by
  by_cases h : ∀ j, k j ≠ ⊤ ∧ k j ≠ ⊥
  · have hk : ∀ j, k j = ((k j).toReal : EReal) := fun j => (EReal.coe_toReal (h j).1 (h j).2).symm
    refine ⟨fun j => (k j).toReal, fun j => (k j).toReal * (max (Real.sqrt (∑ i, (k i).toReal * (k i).toReal)) e)⁻¹, fun j => ?_, Or.inr hk⟩
    have hs : ∑ i, k i * k i = ((∑ i, (k i).toReal * (k i).toReal : ℝ) : EReal) := by
      rw [← sum_coe]
      refine Finset.sum_congr rfl fun i _ => ?_
      rw [EReal.coe_mul, ← hk i]
    have hs0 : ¬ (∑ i, (k i).toReal * (k i).toReal : ℝ) < 0 := not_lt.mpr (Finset.sum_nonneg fun i _ => mul_self_nonneg _)
    have hm : max (Ideal.sqrt (∑ i, k i * k i)) (e : EReal) = ((max (Real.sqrt (∑ i, (k i).toReal * (k i).toReal)) e : ℝ) : EReal) := by
      rw [hs]
      show max (if _ < 0 then ⊥ else _) _ = _
      rw [if_neg hs0]
      exact (EReal.coe_strictMono.monotone.map_max).symm
    have hp : (0 : ℝ) < max (Real.sqrt (∑ i, (k i).toReal * (k i).toReal)) e := lt_max_of_lt_right he
    rw [unitRow, hm, Ideal.div, if_neg (by exact_mod_cast hp.ne'), EReal.coe_mul, EReal.coe_inv, ← hk j]
  · refine ⟨fun _ => 0, fun _ => 0, fun j => ?_, Or.inl fun _ => rfl⟩
    push Not at h
    obtain ⟨i, hi⟩ := h
    have hii : k i * k i = ⊤ := by
      by_cases ht : k i = ⊤
      · rw [ht]; rfl
      · rw [hi ht]; rfl
    have hs : ∑ i, k i * k i = ⊤ := by
      rw [← Finset.add_sum_erase _ _ (Finset.mem_univ i), hii]
      refine EReal.top_add_of_ne_bot (ne_of_gt (lt_of_lt_of_le EReal.bot_lt_zero (Finset.sum_nonneg fun j _ => sq_nonneg' _)))
    have hm : max (Ideal.sqrt (∑ i, k i * k i)) (e : EReal) = ⊤ := by rw [hs]; exact max_eq_left le_top
    rw [unitRow, hm, Ideal.div, if_neg (by simp), EReal.inv_top, mul_zero, EReal.coe_zero]

/-- The memory after `t` keys, one at a time. -/
def seqE {d : ℕ} (e : EReal) (K : ℕ → Fin d → EReal) : ℕ → Fin d → Fin d → EReal
  | 0 => fun _ _ => 0
  | t + 1 => fun a b => seqE e K t a b + (K t a - ∑ j, seqE e K t a j * unitRow e (K t) j) * unitRow e (K t) b

/-- One Newton step over the extended reals. -/
def newtonE {n : ℕ} (A T : Fin n → Fin n → EReal) : Fin n → Fin n → EReal := fun i j =>
  T i j + ∑ k, T i k * ((if k = j then (1 : EReal) else 0) - T k j - ∑ l, A k l * T l j)

/-- Six Newton steps over the extended reals. -/
def invE {n : ℕ} (A : Fin n → Fin n → EReal) : Fin n → Fin n → EReal :=
  newtonE A (newtonE A (newtonE A (newtonE A (newtonE A (newtonE A fun i j => (if i = j then (1 : EReal) else 0) - A i j)))))

/-- The products of the rows with each other, below the diagonal, over the extended reals. -/
def gramE {n d : ℕ} (w : Fin n → Fin d → EReal) : Fin n → Fin n → EReal :=
  fun i j => if j.val < i.val then ∑ b, w i b * w j b else 0

/-- The update of a memory by a block of keys at once. -/
def blockE {n d : ℕ} (e : EReal) (k : Fin n → Fin d → EReal) (M : Fin d → Fin d → EReal) : Fin d → Fin d → EReal := fun a b =>
  M a b + ∑ i, (∑ j, invE (gramE fun i => unitRow e (k i)) i j * (k j a - ∑ b, unitRow e (k j) b * M a b)) * unitRow e (k i) b

/-- A Newton step of real matrices is real. -/
theorem newtonE_coe {n : ℕ} (A T : Matrix (Fin n) (Fin n) ℝ) :
    newtonE (fun i j => (A i j : EReal)) (fun i j => (T i j : EReal)) = fun i j => (newtonR A T i j : EReal) := by
  funext i j
  simp only [newtonE, newtonR]
  have h : ∀ k, (if k = j then (1 : EReal) else 0) = (((1 : Matrix (Fin n) (Fin n) ℝ) k j : ℝ) : EReal) := by
    intro k
    rw [Matrix.one_apply]; split <;> simp
  simp only [h, ← EReal.coe_mul, ← EReal.coe_sub, ← EReal.coe_add, sum_coe]
  rfl

/-- The Newton steps of a real matrix are real. -/
theorem invE_coe {n : ℕ} (A : Matrix (Fin n) (Fin n) ℝ) :
    invE (fun i j => (A i j : EReal)) = fun i j => (invR A i j : EReal) := by
  have h : (fun i j => (if i = j then (1 : EReal) else 0) - (A i j : EReal)) = fun i j : Fin n => (((1 - A) i j : ℝ) : EReal) := by
    funext i j
    rw [Matrix.sub_apply, Matrix.one_apply, EReal.coe_sub]
    split <;> simp
  simp only [invE, h, newtonE_coe]
  rfl

/-- The products of real rows are real. -/
theorem gramE_coe {n d : ℕ} (w : Fin n → Fin d → ℝ) : gramE (fun i j => (w i j : EReal)) = fun i j => (gramR n w i j : EReal) := by
  funext i j
  simp only [gramE, gramR, ← EReal.coe_mul, sum_coe]
  split <;> simp

/-- The block update of a real memory, whatever infinite entries the keys have. -/
theorem blockE_coe {d : ℕ} (e : EReal) (k : Fin 128 → Fin d → EReal) (κ w : Fin 128 → Fin d → ℝ) (M : Fin d → Fin d → ℝ)
    (hw : ∀ i j, unitRow e (k i) j = (w i j : EReal)) (hk : ∀ i, (∀ j, w i j = 0) ∨ ∀ j, k i j = (κ i j : EReal)) :
    blockE e k (fun a b => (M a b : EReal))
      = fun a b => ((M a b + ∑ i, blockRows (invR (gramR 128 w)) κ w M i a * w i b : ℝ) : EReal) := by
  have hG : (gramE fun i => unitRow e (k i)) = fun i j => (gramR 128 w i j : EReal) := by
    rw [← gramE_coe]; congr 1; funext i j; exact hw i j
  have hL : ∀ i j : Fin 128, i.val ≤ j.val → gramR 128 w i j = 0 := fun i j h => if_neg (by omega)
  have hT : invR (gramR 128 w) * (1 + gramR 128 w) = 1 := mul_eq_one_comm.mp (invR_spec _ hL)
  funext a b
  simp only [blockE, hG, invE_coe, hw]
  rw [EReal.coe_add, ← sum_coe]
  congr 1
  refine Finset.sum_congr rfl fun i _ => ?_
  by_cases hi : ∀ j, w i j = 0
  · rw [hi b, EReal.coe_zero, mul_zero, mul_zero, EReal.coe_zero]
  rw [EReal.coe_mul, blockRows, ← sum_coe]
  congr 1
  refine Finset.sum_congr rfl fun j _ => ?_
  by_cases hj : ∀ b, w j b = 0
  · have hc : ∀ l, gramR 128 w l j = 0 := fun l => by
      unfold gramR
      split
      · exact Finset.sum_eq_zero fun b _ => by rw [hj b, mul_zero]
      · rfl
    have hij : i ≠ j := fun h => hi (h ▸ hj)
    have h0 : invR (gramR 128 w) i j = 0 := by
      have := congrFun (congrFun hT i) j
      rw [mul_add, mul_one, Matrix.add_apply, Matrix.mul_apply, Matrix.one_apply_ne hij] at this
      rw [Finset.sum_eq_zero (fun l _ => by rw [hc l, mul_zero]), add_zero] at this
      exact this
    rw [h0, EReal.coe_zero, zero_mul, zero_mul, EReal.coe_zero]
  · rw [(hk j).resolve_left hj a]
    simp only [← EReal.coe_mul, sum_coe, ← EReal.coe_sub]

/-- The sequential update is real, whatever infinite entries the keys have. -/
theorem seqE_coe {d : ℕ} (e : EReal) (K : ℕ → Fin d → EReal) (κ w : ℕ → Fin d → ℝ)
    (hw : ∀ t j, unitRow e (K t) j = (w t j : EReal)) (hk : ∀ t, (∀ j, w t j = 0) ∨ ∀ j, K t j = (κ t j : EReal)) :
    ∀ t, seqE e K t = fun a b => (seqR κ w t a b : EReal)
  | 0 => by funext a b; simp [seqE, seqR]
  | t + 1 => by
    funext a b
    simp only [seqE, seqR, seqE_coe e K κ w hw hk t, hw, ← EReal.coe_mul, sum_coe]
    rw [EReal.coe_add]
    congr 1
    rcases hk t with h | h
    · rw [h b, EReal.coe_zero, mul_zero, mul_zero, EReal.coe_zero]
    · rw [h a, EReal.coe_mul, EReal.coe_sub]

/-- The memories by blocks of 128 keys. -/
def blocksE {d : ℕ} (e : EReal) (K : ℕ → Fin d → EReal) : ℕ → Fin d → Fin d → EReal
  | 0 => fun _ _ => 0
  | c + 1 => blockE e (fun i : Fin 128 => K (128 * c + i.val)) (blocksE e K c)

/-- Blocks of 128 keys at once are the keys one at a time. -/
theorem blocksE_eq {d : ℕ} (e : ℝ) (he : 0 < e) (K : ℕ → Fin d → EReal) (c : ℕ) :
    blocksE (e : EReal) K c = seqE (e : EReal) K (128 * c) := by
  choose κ w hw hk using fun t => unitRow_real e he (K t)
  rw [seqE_coe _ K κ w hw hk]
  induction c with
  | zero => funext a b; simp [blocksE, seqR]
  | succ c ih =>
    rw [blocksE, ih, blockE_coe _ _ (fun i => κ (128 * c + i.val)) (fun i => w (128 * c + i.val)) _ (fun i => hw _) (fun i => hk _)]
    funext a b
    rw [show 128 * (c + 1) = 128 * c + 128 from rfl, seqR_block κ w (128 * c) _ (invR_spec _ fun i j h => if_neg (by omega))]

/-- A key that is zero changes nothing. -/
theorem seqE_zero {d : ℕ} (e : ℝ) (he : 0 < e) (K : ℕ → Fin d → EReal) (t : ℕ) (h : ∀ j, K t j = 0) :
    seqE (e : EReal) K (t + 1) = seqE (e : EReal) K t := by
  have h0 : ∀ j, unitRow (e : EReal) (K t) j = 0 := fun j => by
    obtain ⟨κ, w, hw, -⟩ := unitRow_real e he (K t)
    rw [unitRow, h j, Ideal.div, if_neg, zero_mul]
    exact ne_of_gt (lt_max_of_lt_right (by exact_mod_cast he))
  funext a b
  simp only [seqE, h0 b, mul_zero, add_zero]

/-- The sequential update reads the keys before it only. -/
theorem seqE_congr {d : ℕ} (e : EReal) (K K' : ℕ → Fin d → EReal) : ∀ t, (∀ s, s < t → K s = K' s) → seqE e K t = seqE e K' t
  | 0, _ => rfl
  | t + 1, h => by
    funext a b
    simp only [seqE, seqE_congr e K K' t (fun s hs => h s (by omega)), h t (by omega)]

/-! ## A key -/

/-- The key of one row of embeddings: feed-forward network, residual, layer norm, key projection. -/
def keyRow (w1 : Fin 256 → Fin 512 → EReal) (b1 : Fin 512 → EReal) (w2 : Fin 512 → Fin 256 → EReal) (b2 g b : Fin 256 → EReal)
    (kp : Fin 256 → Fin 256 → EReal) (e : Fin 256 → EReal) (j : Fin 256) : EReal :=
  let x : Fin 256 → EReal := fun i => e i + ((∑ k, max ((∑ l, e l * w1 l k) + b1 k) 0 * w2 k i) + b2 i)
  let xc : Fin 256 → EReal := fun i => x i - Ideal.div (∑ l, x l) (Ideal.ofBits .f32 0x43800000#32)
  let v : EReal := Ideal.div (∑ l, xc l * xc l) (Ideal.ofBits .f32 0x43800000#32)
  ∑ i, (xc i * Ideal.rsqrt (v + Ideal.ofBits .f32 0x3727C5AC#32) * g i + b i) * kp i j

/-- The row of the table that a number names: a negative one counts from the table's end, and what is then out of the table is clamped into it. -/
def rowNo (v : BitVec 32) : Fin 32000 :=
  ⟨min (Scalar.select (IntOp.cmpi .slt v 0#32) (IntOp.addi v 32000#32) v).toInt.toNat 31999, by omega⟩

/-! ## The network -/

/-- The lower bound kept of a row's norm. -/
abbrev epsE : EReal := Ideal.ofBits .f32 0x2B8CBCCC#32

/-- That bound is a positive real number. -/
theorem epsE_pos : ∃ e : ℝ, 0 < e ∧ epsE = (e : EReal) := by
  refine ⟨_, ?_, by simp [epsE, Ideal.ofBits, Ideal.ieee, -EReal.coe_mul]; rfl⟩
  norm_num

/-- What the network is called with: the token numbers of 16 sequences, the table of embeddings, and the weights. -/
structure Net where
  /-- The token numbers. -/
  seq : Fin 16 → Fin 2048 → BitVec 32
  /-- The embeddings. -/
  emb : Fin 32000 → Fin 256 → EReal
  /-- The feed-forward network's first weights. -/
  w1 : Fin 256 → Fin 512 → EReal
  /-- Its first offsets. -/
  b1 : Fin 512 → EReal
  /-- Its second weights. -/
  w2 : Fin 512 → Fin 256 → EReal
  /-- Its second offsets. -/
  b2 : Fin 256 → EReal
  /-- The normalization's factors. -/
  g : Fin 256 → EReal
  /-- The normalization's offsets. -/
  b : Fin 256 → EReal
  /-- The key projection. -/
  kp : Fin 256 → Fin 256 → EReal
  /-- The read-out projection. -/
  rp : Fin 256 → Fin 256 → EReal
  /-- Its offsets. -/
  rb : Fin 256 → EReal
  /-- The output projection. -/
  ow : Fin 256 → Fin 32000 → EReal
  /-- Its offsets. -/
  ob : Fin 32000 → EReal

namespace Net

/-- The key of position `t` of sequence `s`. -/
def key (N : Net) (s : Fin 16) (t : ℕ) : Fin 256 → EReal :=
  keyRow N.w1 N.b1 N.w2 N.b2 N.g N.b N.kp (N.emb (rowNo (N.seq s ⟨t % 2048, Nat.mod_lt _ (by decide)⟩)))

/-- The memory of sequence `s` after all positions but the last. -/
def mem (N : Net) (s : Fin 16) : Fin 256 → Fin 256 → EReal := seqE epsE (N.key s) 2047

/-- What is read from the memory of sequence `s` with the last position's key, after the read-out projection. -/
def read (N : Net) (s : Fin 16) (j : Fin 256) : EReal := (∑ i, (∑ l, N.mem s i l * N.key s 2047 l) * N.rp i j) + N.rb j

/-- The network's result. -/
def out (N : Net) (s : Fin 16) (v : Fin 32000) : EReal := (∑ k, N.read s k * N.ow k v) + N.ob v

/-- The memory in blocks of 128 positions, the last position's key put to zero: the same memory. -/
theorem mem_blocks (N : Net) (s : Fin 16) : blocksE epsE (fun t j => if t < 2047 then N.key s t j else 0) 16 = N.mem s := by
  obtain ⟨e, he, h⟩ := epsE_pos
  rw [mem, h, blocksE_eq e he]
  show seqE (e : EReal) _ (2047 + 1) = _
  rw [seqE_zero e he _ 2047 (fun j => if_neg (lt_irrefl _))]
  exact seqE_congr _ _ _ 2047 fun t ht => by funext j; rw [if_pos ht]

end Net

end Cert.Delta

end
-- ==== Proof.KI.Entry.lean ====
/- What the kernel's blocks hold, read at an index: the embedding rows, the weights, and a tile of the output projection. -/
module

public import proofs.«01_k».proof.Proof.KI.Frame
public import proofs.«01_k».proof.Proof.Math
public import Idealize.ShloMosaic.Lib.Pointwise
public import Idealize.ShloMosaic.Lib.Pipeline.ValueKit.Geometry

@[expose] public section

set_option maxRecDepth 16384

noncomputable section

namespace Cert.KernelIdeal.Gen

open Idealize.ShloMosaic Idealize.ShloMosaic.TcCoe
open Cert.Delta

/-! ## What the host computes before the kernel is called -/

/-- The table's row numbers, a negative one counted from the table's end. -/
def tokenRows (seq : IVec S16x2048 32) : IVec S32768x1 32 :=
  let s := shapeCast S32768 seq shapeCasts_S16x2048_S32768
  broadcastInDim S32768x1 ![0] bcast_S32768_S32768x1_0
    (select (cmpi .slt s (broadcastInDim S32768 ![] bcast_S_S32768 (constantI S_ 32 0#32)))
      (addi s (broadcastInDim S32768 ![] bcast_S_S32768 (constantI S_ 32 32000#32))) s)

/-- The embedding rows in chunks of 128 positions. -/
def chunkRows (seq : IVec S16x2048 32) (emb : FVec Ideal S32000x256 .f32) : FVec Ideal S1x16x16x128x256 .f32 :=
  shapeCast S1x16x16x128x256 (Host.gather gather_S32000x256_S32768x1_S32768x256_1_0_n_n_0_1_1256 emb (tokenRows seq)) shapeCasts_S32768x256_S1x16x16x128x256

/-- The table read at a position: the row of the position's number, clamped into the table. -/
theorem gather_apply (x : FVec Ideal S32000x256 .f32) (idx : IVec S32768x1 32) (r : Fin 32768) (j : Fin 256) :
    Host.gather gather_S32000x256_S32768x1_S32768x256_1_0_n_n_0_1_1256 x idx (ix2 r j)
      = x (ix2 ⟨min (idx (ix2 r 0)).toInt.toNat 31999, by omega⟩ j) := by
  unfold Host.gather
  refine congrArg x (funext fun a => Fin.ext ?_)
  match a with
  | ⟨0, _⟩ =>
    show GatherDims.start gather_S32000x256_S32768x1_S32768x256_1_0_n_n_0_1_1256 (ix2 r j) idx 0
      + GatherDims.batchCoord gather_S32000x256_S32768x1_S32768x256_1_0_n_n_0_1_1256 (ix2 r j) 0
      + GatherDims.offCoord gather_S32000x256_S32768x1_S32768x256_1_0_n_n_0_1_1256 (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32000x256_S32768x1_S32768x256_1_0_n_n_0_1_1256 from List.mem_singleton.mpr rfl)]
    have hsi : GatherDims.siIdx gather_S32000x256_S32768x1_S32768x256_1_0_n_n_0_1_1256 (ix2 r j)
        ⟨List.idxOf (0 : Fin 2) (GatherDims.startIndexMap gather_S32000x256_S32768x1_S32768x256_1_0_n_n_0_1_1256),
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show GatherDims.start gather_S32000x256_S32768x1_S32768x256_1_0_n_n_0_1_1256 (ix2 r j) idx 1
      + GatherDims.batchCoord gather_S32000x256_S32768x1_S32768x256_1_0_n_n_0_1_1256 (ix2 r j) 1
      + GatherDims.offCoord gather_S32000x256_S32768x1_S32768x256_1_0_n_n_0_1_1256 (ix2 r j) 1 = _
    rw [GatherDims.batchCoord_eq_zero _ _ _ List.not_mem_nil]
    unfold GatherDims.start GatherDims.offCoord
    rw [dif_neg (show ¬(1 : Fin 2) ∈ GatherDims.startIndexMap gather_S32000x256_S32768x1_S32768x256_1_0_n_n_0_1_1256 from
        fun h => absurd (List.mem_singleton.1 h) (by decide)),
      dif_pos ((GatherDims.mem_sKept _ _).mpr ⟨fun h => absurd (List.mem_singleton.1 h) (by decide), List.not_mem_nil⟩)]
    simp only [Nat.zero_add, Nat.add_zero]
    rfl

/-- A row number at an index. -/
theorem tokenRows_apply (seq : IVec S16x2048 32) (g : Fin 16) (t : Fin 2048) :
    tokenRows seq (ix2 ⟨2048 * g.val + t.val, by omega⟩ 0)
      = Scalar.select (IntOp.cmpi .slt (seq (ix2 g t)) 0#32) (IntOp.addi (seq (ix2 g t)) 32000#32) (seq (ix2 g t)) := by
  have h : ∀ r : Fin 32768, tokenRows seq (ix2 r 0) = Scalar.select (IntOp.cmpi .slt (shapeCast S32768 seq shapeCasts_S16x2048_S32768 (ix1 r)) 0#32)
      (IntOp.addi (shapeCast S32768 seq shapeCasts_S16x2048_S32768 (ix1 r)) 32000#32) (shapeCast S32768 seq shapeCasts_S16x2048_S32768 (ix1 r)) := by
    intro r; rfl
  have h' : shapeCast S32768 seq shapeCasts_S16x2048_S32768 (ix1 ⟨2048 * g.val + t.val, by omega⟩) = seq (ix2 g t) := by
    pointwise
  rw [h, h']

/-- The embedding rows at an index: sequence `g`, chunk `n`, row `i` of the chunk. -/
theorem chunkRows_apply (seq : IVec S16x2048 32) (emb : FVec Ideal S32000x256 .f32) (g n : Fin 16) (i : Fin 128) (l : Fin 256) :
    chunkRows seq emb (ix5 0 g n i l) = emb (ix2 (rowNo (seq (ix2 g ⟨128 * n.val + i.val, by omega⟩))) l) := by
  have h : chunkRows seq emb (ix5 0 g n i l) = Host.gather gather_S32000x256_S32768x1_S32768x256_1_0_n_n_0_1_1256 emb (tokenRows seq)
      (ix2 ⟨2048 * g.val + (128 * n.val + i.val), by omega⟩ l) := by
    unfold chunkRows
    generalize Host.gather gather_S32000x256_S32768x1_S32768x256_1_0_n_n_0_1_1256 emb (tokenRows seq) = x
    pointwise
    exact congrArg (fun r => x (ix2 r l)) (Fin.ext (show g.val * 2048 + n.val * 128 + i.val = 2048 * g.val + (128 * n.val + i.val) by omega))
  rw [h, gather_apply]
  have h' := tokenRows_apply seq g ⟨128 * n.val + i.val, by omega⟩
  simp only [h']
  rfl

variable (m : (ℓ : Loc nD τ sig) → Buf (Elt Ideal) ℓ)

/-- The embedding rows the kernel is called with. -/
theorem V_main_v8 (c : Dev nD) : V m c main_v8 = chunkRows (m ((c.tc : Thread nD τ).loc main_arg0)) (m ((c.tc : Thread nD τ).loc main_arg1)) := by
  entry_read
  rfl

/-- The feed-forward network's first offsets as a row. -/
theorem V_main_v9 (c : Dev nD) (k : Fin 512) :
    (V m c main_v9 : FVec Ideal S1x512 .f32) (ix2 0 k) = (m ((c.tc : Thread nD τ).loc main_arg3) : FVec Ideal S512 .f32) (ix1 k) := by
  entry_read
  have h : ∀ x : FVec Ideal S512 .f32, shapeCast S1x512 x shapeCasts_S512_S1x512 (ix2 0 k) = x (ix1 k) := fun x => by pointwise
  exact h _

/-- The feed-forward network's second offsets as a row. -/
theorem V_main_v10 (c : Dev nD) (k : Fin 256) :
    (V m c main_v10 : FVec Ideal S1x256 .f32) (ix2 0 k) = (m ((c.tc : Thread nD τ).loc main_arg5) : FVec Ideal S256 .f32) (ix1 k) := by
  entry_read
  have h : ∀ x : FVec Ideal S256 .f32, shapeCast S1x256 x shapeCasts_S256_S1x256 (ix2 0 k) = x (ix1 k) := fun x => by pointwise
  exact h _

/-- The normalization's factors as a row. -/
theorem V_main_v11 (c : Dev nD) (k : Fin 256) :
    (V m c main_v11 : FVec Ideal S1x256 .f32) (ix2 0 k) = (m ((c.tc : Thread nD τ).loc main_arg6) : FVec Ideal S256 .f32) (ix1 k) := by
  entry_read
  have h : ∀ x : FVec Ideal S256 .f32, shapeCast S1x256 x shapeCasts_S256_S1x256 (ix2 0 k) = x (ix1 k) := fun x => by pointwise
  exact h _

/-- The normalization's offsets as a row. -/
theorem V_main_v12 (c : Dev nD) (k : Fin 256) :
    (V m c main_v12 : FVec Ideal S1x256 .f32) (ix2 0 k) = (m ((c.tc : Thread nD τ).loc main_arg7) : FVec Ideal S256 .f32) (ix1 k) := by
  entry_read
  have h : ∀ x : FVec Ideal S256 .f32, shapeCast S1x256 x shapeCasts_S256_S1x256 (ix2 0 k) = x (ix1 k) := fun x => by pointwise
  exact h _

/-- The read-out projection's offsets as a row. -/
theorem V_main_v13 (c : Dev nD) (k : Fin 256) :
    (V m c main_v13 : FVec Ideal S1x256 .f32) (ix2 0 k) = (m ((c.tc : Thread nD τ).loc main_arg10) : FVec Ideal S256 .f32) (ix1 k) := by
  entry_read
  have h : ∀ x : FVec Ideal S256 .f32, shapeCast S1x256 x shapeCasts_S256_S1x256 (ix2 0 k) = x (ix1 k) := fun x => by pointwise
  exact h _

/-- The output projection's offsets as a row. -/
theorem V_main_v14 (c : Dev nD) (k : Fin 32000) :
    (V m c main_v14 : FVec Ideal S1x32000 .f32) (ix2 0 k) = (m ((c.tc : Thread nD τ).loc main_arg12) : FVec Ideal S32000 .f32) (ix1 k) := by
  entry_read
  have h : ∀ x : FVec Ideal S32000 .f32, shapeCast S1x32000 x shapeCasts_S32000_S1x32000 (ix2 0 k) = x (ix1 k) := fun x => by pointwise
  exact h _

/-! ## Which block a window is on at a point -/

/-- The first window of the embedding rows is on the point's chunk. -/
theorem index0_0 : ∀ t : Fin cfg0.N, win0_0.index t = ![0, 0, min t.val 15, 0, 0] := by decide +kernel
/-- The second is on the next chunk. -/
theorem index0_1 : ∀ t : Fin cfg0.N, win0_1.index t = ![0, 0, min (t.val + 1) 15, 0, 0] := by decide +kernel
/-- Window 2 is on its only block. -/
theorem index0_2 : ∀ t : Fin cfg0.N, win0_2.index t = ![0, 0] := by decide +kernel
/-- Window 3 is on its only block. -/
theorem index0_3 : ∀ t : Fin cfg0.N, win0_3.index t = ![0, 0] := by decide +kernel
/-- Window 4 is on its only block. -/
theorem index0_4 : ∀ t : Fin cfg0.N, win0_4.index t = ![0, 0] := by decide +kernel
/-- Window 5 is on its only block. -/
theorem index0_5 : ∀ t : Fin cfg0.N, win0_5.index t = ![0, 0] := by decide +kernel
/-- Window 6 is on its only block. -/
theorem index0_6 : ∀ t : Fin cfg0.N, win0_6.index t = ![0, 0] := by decide +kernel
/-- Window 7 is on its only block. -/
theorem index0_7 : ∀ t : Fin cfg0.N, win0_7.index t = ![0, 0] := by decide +kernel
/-- Window 8 is on its only block. -/
theorem index0_8 : ∀ t : Fin cfg0.N, win0_8.index t = ![0, 0] := by decide +kernel
/-- Window 9 is on its only block. -/
theorem index0_9 : ∀ t : Fin cfg0.N, win0_9.index t = ![0, 0] := by decide +kernel
/-- Window 10 is on its only block. -/
theorem index0_10 : ∀ t : Fin cfg0.N, win0_10.index t = ![0, 0] := by decide +kernel
/-- Window 11 is on the tile of the point's number less 16. -/
theorem index0_11 : ∀ t : Fin cfg0.N, win0_11.index t = ![0, min (t.val - 16) 9] := by decide +kernel
/-- Window 12 is on the tile of the point's number less 16. -/
theorem index0_12 : ∀ t : Fin cfg0.N, win0_12.index t = ![0, min (t.val - 16) 9] := by decide +kernel
/-- Window 13 is on the tile of the point's number less 16. -/
theorem index0_13 : ∀ t : Fin cfg0.N, win0_13.index t = ![0, min (t.val - 16) 9] := by decide +kernel

/-! ## The blocks at an index -/

/-- The first window's block at an index: the chunk of the point's number. -/
theorem iblk0_apply (c : Dev nD) (t : Fin cfg0.N) (n : Fin 16) (h : min t.val 15 = n.val) (g : Fin 16) (i : Fin 128) (l : Fin 256) :
    (iblk m c 0 t : FVec Ideal S1x16x1x128x256 .f32) (ix5 0 g 0 i l) = (V m c main_v8 : FVec Ideal S1x16x16x128x256 .f32) (ix5 0 g n i l) := by
  blk_simp [iblk, index0_0]
  refine congrArg (V m c main_v8) ?_
  blk_ext [index0_0]

/-- The second window's block at an index: the chunk after that. -/
theorem iblk1_apply (c : Dev nD) (t : Fin cfg0.N) (n : Fin 16) (h : min (t.val + 1) 15 = n.val) (g : Fin 16) (i : Fin 128) (l : Fin 256) :
    (iblk m c 1 t : FVec Ideal S1x16x1x128x256 .f32) (ix5 0 g 0 i l) = (V m c main_v8 : FVec Ideal S1x16x16x128x256 .f32) (ix5 0 g n i l) := by
  blk_simp [iblk, index0_1]
  refine congrArg (V m c main_v8) ?_
  blk_ext [index0_1]

/-- Window 2's block is its array. -/
theorem iblk2_apply (c : Dev nD) (t : Fin cfg0.N) (i : Fin 256) (k : Fin 512) :
    (iblk m c 2 t : FVec Ideal S256x512 .f32) (ix2 i k) = (V m c main_arg2 : FVec Ideal S256x512 .f32) (ix2 i k) := by
  blk_simp [iblk, index0_2]
  refine congrArg (V m c main_arg2) ?_
  blk_ext [index0_2]

/-- Window 3's block is its array. -/
theorem iblk3_apply (c : Dev nD) (t : Fin cfg0.N) (i : Fin 1) (k : Fin 512) :
    (iblk m c 3 t : FVec Ideal S1x512 .f32) (ix2 i k) = (V m c main_v9 : FVec Ideal S1x512 .f32) (ix2 i k) := by
  blk_simp [iblk, index0_3]
  refine congrArg (V m c main_v9) ?_
  blk_ext [index0_3]

/-- Window 4's block is its array. -/
theorem iblk4_apply (c : Dev nD) (t : Fin cfg0.N) (i : Fin 512) (k : Fin 256) :
    (iblk m c 4 t : FVec Ideal S512x256 .f32) (ix2 i k) = (V m c main_arg4 : FVec Ideal S512x256 .f32) (ix2 i k) := by
  blk_simp [iblk, index0_4]
  refine congrArg (V m c main_arg4) ?_
  blk_ext [index0_4]

/-- Window 5's block is its array. -/
theorem iblk5_apply (c : Dev nD) (t : Fin cfg0.N) (i : Fin 1) (k : Fin 256) :
    (iblk m c 5 t : FVec Ideal S1x256 .f32) (ix2 i k) = (V m c main_v10 : FVec Ideal S1x256 .f32) (ix2 i k) := by
  blk_simp [iblk, index0_5]
  refine congrArg (V m c main_v10) ?_
  blk_ext [index0_5]

/-- Window 6's block is its array. -/
theorem iblk6_apply (c : Dev nD) (t : Fin cfg0.N) (i : Fin 1) (k : Fin 256) :
    (iblk m c 6 t : FVec Ideal S1x256 .f32) (ix2 i k) = (V m c main_v11 : FVec Ideal S1x256 .f32) (ix2 i k) := by
  blk_simp [iblk, index0_6]
  refine congrArg (V m c main_v11) ?_
  blk_ext [index0_6]

/-- Window 7's block is its array. -/
theorem iblk7_apply (c : Dev nD) (t : Fin cfg0.N) (i : Fin 1) (k : Fin 256) :
    (iblk m c 7 t : FVec Ideal S1x256 .f32) (ix2 i k) = (V m c main_v12 : FVec Ideal S1x256 .f32) (ix2 i k) := by
  blk_simp [iblk, index0_7]
  refine congrArg (V m c main_v12) ?_
  blk_ext [index0_7]

/-- Window 8's block is its array. -/
theorem iblk8_apply (c : Dev nD) (t : Fin cfg0.N) (i : Fin 256) (k : Fin 256) :
    (iblk m c 8 t : FVec Ideal S256x256 .f32) (ix2 i k) = (V m c main_arg8 : FVec Ideal S256x256 .f32) (ix2 i k) := by
  blk_simp [iblk, index0_8]
  refine congrArg (V m c main_arg8) ?_
  blk_ext [index0_8]

/-- Window 9's block is its array. -/
theorem iblk9_apply (c : Dev nD) (t : Fin cfg0.N) (i : Fin 256) (k : Fin 256) :
    (iblk m c 9 t : FVec Ideal S256x256 .f32) (ix2 i k) = (V m c main_arg9 : FVec Ideal S256x256 .f32) (ix2 i k) := by
  blk_simp [iblk, index0_9]
  refine congrArg (V m c main_arg9) ?_
  blk_ext [index0_9]

/-- Window 10's block is its array. -/
theorem iblk10_apply (c : Dev nD) (t : Fin cfg0.N) (i : Fin 1) (k : Fin 256) :
    (iblk m c 10 t : FVec Ideal S1x256 .f32) (ix2 i k) = (V m c main_v13 : FVec Ideal S1x256 .f32) (ix2 i k) := by
  blk_simp [iblk, index0_10]
  refine congrArg (V m c main_v13) ?_
  blk_ext [index0_10]

/-- Window 11's block at an index: a tile of 3200 columns. -/
theorem iblk11_apply (c : Dev nD) (t : Fin cfg0.N) (i : Fin 256) (k : Fin 3200) (v : Fin 32000) (h : min (t.val - 16) 9 * 3200 + k.val = v.val) :
    (iblk m c 11 t : FVec Ideal S256x3200 .f32) (ix2 i k) = (V m c main_arg11 : FVec Ideal S256x32000 .f32) (ix2 i v) := by
  blk_simp [iblk, index0_11]
  refine congrArg (V m c main_arg11) ?_
  blk_ext [index0_11]

/-- Window 12's block at an index: a tile of 3200 columns. -/
theorem iblk12_apply (c : Dev nD) (t : Fin cfg0.N) (i : Fin 1) (k : Fin 3200) (v : Fin 32000) (h : min (t.val - 16) 9 * 3200 + k.val = v.val) :
    (iblk m c 12 t : FVec Ideal S1x3200 .f32) (ix2 i k) = (V m c main_v14 : FVec Ideal S1x32000 .f32) (ix2 i v) := by
  blk_simp [iblk, index0_12]
  refine congrArg (V m c main_v14) ?_
  blk_ext [index0_12]

end Cert.KernelIdeal.Gen

end
-- ==== Proof.KI.Read.lean ====
/- What the kernel computes, read at an index over the extended reals. -/
module

public import proofs.«01_k».proof.Proof.KI.Val
public import proofs.«01_k».proof.Proof.Math
public import Idealize.ShloMosaic.Lib.Pointwise

@[expose] public section

set_option maxRecDepth 16384

noncomputable section

namespace Cert.KernelIdeal.Gen

open Idealize.ShloMosaic Idealize.ShloMosaic.TcCoe
open Cert.Delta

/-- The comparison of two row numbers for equality, as a choice. -/
theorem eq_lane (i j : Fin 128) : Scalar.select (IntOp.cmpi CmpIPredicate.eq (BitVec.ofNat 32 i.val) (BitVec.ofNat 32 j.val)) (1 : EReal) 0
    = if i = j then 1 else 0 := by
  have h : ∀ i j : Fin 128, IntOp.cmpi CmpIPredicate.eq (BitVec.ofNat 32 i.val) (BitVec.ofNat 32 j.val) = if i = j then 1#1 else 0#1 := by decide +kernel
  rw [h]; unfold Scalar.select
  split <;> simp_all

/-- The comparison of two row numbers. -/
theorem sgt_lane : ∀ i j : Fin 128, IntOp.cmpi CmpIPredicate.sgt (BitVec.ofNat 32 i.val) (BitVec.ofNat 32 j.val) = if j.val < i.val then 1#1 else 0#1 := by
  decide +kernel

/-- The mask of a chunk's rows. -/
theorem mask_lane : ∀ (n : Fin 16) (i : Fin 128), IntOp.ori (Scalar.cmpi CmpIPredicate.slt (BitVec.ofNat 32 n.val) 15#32)
    (IntOp.cmpi CmpIPredicate.slt (BitVec.ofNat 32 i.val) 127#32) = if 128 * n.val + i.val < 2047 then 1#1 else 0#1 := by
  decide +kernel

/-- The unit rows at an index. -/
theorem unitRows_apply (km : FVec Ideal S128x256 .f32) (i : Fin 128) (j : Fin 256) :
    unitRows km (ix2 i j) = unitRow epsE (fun j => km (ix2 i j)) j := by
  pointwise [unitRows, unitRow]

/-- The products below the diagonal at an index. -/
theorem lowerGram_apply (wb : FVec Ideal S128x256 .bf16) (i j : Fin 128) :
    lowerGram wb (ix2 i j) = gramE (fun i j => wb (ix2 i j)) i j := by
  pointwise [lowerGram, gramE]
  rw [sgt_lane]
  unfold Scalar.select
  split <;> simp_all

/-- A Newton step at an index. -/
theorem newton_apply (ab : FVec Ideal S128x128 .bf16) (t : FVec Ideal S128x128 .f32) (i j : Fin 128) :
    newton ab t (ix2 i j) = newtonE (fun i j => ab (ix2 i j)) (fun i j => t (ix2 i j)) i j := by
  pointwise [newton, newtonE, k0_pay31]
  simp only [eq_lane]

/-- The masked rows at an index. -/
theorem maskRows_apply (n : ℕ) (hn : n < 16) (k : FVec Ideal S128x256 .f32) (i : Fin 128) (j : Fin 256) :
    maskRows (BitVec.ofNat 32 n) k (ix2 i j) = if 128 * n + i.val < 2047 then k (ix2 i j) else 0 := by
  pointwise [maskRows, k0_pay30]
  rw [mask_lane ⟨n, hn⟩ i]
  unfold Scalar.select
  split <;> simp_all

/-- The memory's update at an index. -/
theorem memUpdate_apply (km : FVec Ideal S128x256 .f32) (wb : FVec Ideal S128x256 .bf16) (T : FVec Ideal S128x128 .f32) (M : Vec Ideal S256x256 .f32)
    (a b : Fin 256) : memUpdate km wb T M (ix2 a b)
      = M (ix2 a b) + ∑ i, (∑ j, T (ix2 i j) * (km (ix2 j a) - ∑ b, wb (ix2 j b) * M (ix2 a b))) * wb (ix2 i b) := by
  pointwise [memUpdate]

/-- The inverse at an index. -/
theorem invLower_apply (ab : FVec Ideal S128x128 .bf16) (i j : Fin 128) :
    invLower ab (ix2 i j) = invE (fun i j => ab (ix2 i j)) i j := by
  have h0 : (fun i j => subf (k0_pay31 (F := Ideal)) (extf .f32 ab bitsLt_bf16_f32) (ix2 i j))
      = fun i j : Fin 128 => (if i = j then (1 : EReal) else 0) - ab (ix2 i j) := by
    funext i j
    pointwise [k0_pay31]
    simp only [eq_lane]
  simp only [invLower, newton_apply, h0, invE]

/-- One head's step is the block update of its memory by the chunk's masked rows. -/
theorem headStep_apply (n : ℕ) (hn : n < 16) (k : FVec Ideal S128x256 .f32) (M : Vec Ideal S256x256 .f32) (a b : Fin 256) :
    headStep (BitVec.ofNat 32 n) k M (ix2 a b)
      = blockE epsE (fun (i : Fin 128) j => if 128 * n + i.val < 2047 then k (ix2 i j) else 0) (fun a b => M (ix2 a b)) a b := by
  have hm : ∀ i : Fin 128, (fun j => maskRows (BitVec.ofNat 32 n) k (ix2 i j)) = fun j => if 128 * n + i.val < 2047 then k (ix2 i j) else 0 :=
    fun i => by funext j; exact maskRows_apply n hn k i j
  have hu : (fun i j => (truncf .bf16 (unitRows (maskRows (BitVec.ofNat 32 n) k)) bitsLt_bf16_f32 : FVec Ideal S128x256 .bf16) (ix2 i j))
      = fun (i : Fin 128) (j : Fin 256) => unitRow epsE (fun j => if 128 * n + i.val < 2047 then k (ix2 i j) else 0) j := by
    funext i j
    rw [← hm i, ← unitRows_apply]; rfl
  have hg := fun (wb : FVec Ideal S128x256 .bf16) => show (fun i j => lowerGram wb (ix2 i j)) = gramE (fun i j => wb (ix2 i j)) from by
    funext i j; exact lowerGram_apply wb i j
  rw [headStep, memUpdate_apply]
  simp only [invLower_apply, hg, maskRows_apply n hn]
  rw [hu]
  simp only [show ∀ (i : Fin 128) (j : Fin 256), (truncf .bf16 (unitRows (maskRows (BitVec.ofNat 32 n) k)) bitsLt_bf16_f32 : FVec Ideal S128x256 .bf16) (ix2 i j)
    = unitRow epsE (fun j => if 128 * n + i.val < 2047 then k (ix2 i j) else 0) j from fun i j => congrFun (congrFun hu i) j]
  rfl

/-- The key block at an index: the key of its row of embeddings. -/
theorem keyBlock_apply (e : Vec Ideal S1x16x1x128x256 .f32) (w1 : Vec Ideal S256x512 .f32) (b1 : Vec Ideal S1x512 .f32)
    (w2 : Vec Ideal S512x256 .f32) (b2 g b : Vec Ideal S1x256 .f32) (kp : Vec Ideal S256x256 .f32) (r : Fin 2048) (j : Fin 256) :
    keyBlock e w1 b1 w2 b2 g b kp (ix3 0 r j)
      = keyRow (fun i k => w1 (ix2 i k)) (fun k => b1 (ix2 0 k)) (fun k i => w2 (ix2 k i)) (fun i => b2 (ix2 0 i)) (fun i => g (ix2 0 i))
          (fun i => b (ix2 0 i)) (fun i j => kp (ix2 i j)) (fun l => e (ix5 0 ⟨r.val / 128, by omega⟩ 0 ⟨r.val % 128, by omega⟩ l)) j := by
  pointwise [keyBlock, keyRow, k0_pay29, k0_pay28, k0_pay27]

/-- A head's rows at an index. -/
theorem headRows_apply (g : Fin 16) (blk : Vec Ideal S1x2048x256 .f32) (i : Fin 128) (j : Fin 256) :
    headRows g blk (ix2 i j) = blk (ix3 0 ⟨128 * g.val + i.val, by omega⟩ j) := by
  pointwise [headRows]

/-- The logits of a tile at an index. -/
theorem pay9_apply (rr : Vec Ideal S16x256 .f32) (w : Vec Ideal S256x3200 .f32) (b : Vec Ideal S1x3200 .f32) (i : Fin 16) (j : Fin 3200) :
    k0_pay9 rr w b (ix2 i j) = (∑ k, rr (ix2 i k) * w (ix2 k j)) + b (ix2 0 j) := by
  pointwise [k0_pay9]

/-- The read-out rows at an index. -/
theorem readOut_apply (k : Fin 16 → FVec Ideal S128x256 .f32) (M : Fin 16 → FVec Ideal S256x256 .f32) (rp : Vec Ideal S256x256 .f32)
    (rb : Vec Ideal S1x256 .f32) (g : Fin 16) (j : Fin 256) :
    readOut k M rp rb (ix2 g j) = (∑ i, (∑ l, k g (ix2 127 l) * M g (ix2 i l)) * rp (ix2 i j)) + rb (ix2 0 j) := by
  fin_cases g <;> pointwise [readOut, k0_pay8, k0_pay25]

end Cert.KernelIdeal.Gen

end
-- ==== Proof.KI.Value.lean ====
/- What the kernel computes: the network's result. -/
module

public import proofs.«01_k».proof.Proof.KI.Entry
public import proofs.«01_k».proof.Proof.KI.Read

@[expose] public section

set_option maxRecDepth 16384

noncomputable section

namespace Cert.KernelIdeal.Gen

open Idealize.ShloMosaic Idealize.ShloMosaic.TcCoe
open Cert.Delta

variable (m : (ℓ : Loc nD τ sig) → Buf (Elt Ideal) ℓ) (ρ : Dev nD → PrngReg)

/-- The network that the arguments' buffers hold on core `c`. -/
def netK (c : Dev nD) : Net where
  seq g t := (m ((c.tc : Thread nD τ).loc main_arg0) : IVec S16x2048 32) (ix2 g t)
  emb r l := (m ((c.tc : Thread nD τ).loc main_arg1) : FVec Ideal S32000x256 .f32) (ix2 r l)
  w1 i k := (m ((c.tc : Thread nD τ).loc main_arg2) : FVec Ideal S256x512 .f32) (ix2 i k)
  b1 k := (m ((c.tc : Thread nD τ).loc main_arg3) : FVec Ideal S512 .f32) (ix1 k)
  w2 k i := (m ((c.tc : Thread nD τ).loc main_arg4) : FVec Ideal S512x256 .f32) (ix2 k i)
  b2 i := (m ((c.tc : Thread nD τ).loc main_arg5) : FVec Ideal S256 .f32) (ix1 i)
  g i := (m ((c.tc : Thread nD τ).loc main_arg6) : FVec Ideal S256 .f32) (ix1 i)
  b i := (m ((c.tc : Thread nD τ).loc main_arg7) : FVec Ideal S256 .f32) (ix1 i)
  kp i j := (m ((c.tc : Thread nD τ).loc main_arg8) : FVec Ideal S256x256 .f32) (ix2 i j)
  rp i j := (m ((c.tc : Thread nD τ).loc main_arg9) : FVec Ideal S256x256 .f32) (ix2 i j)
  rb j := (m ((c.tc : Thread nD τ).loc main_arg10) : FVec Ideal S256 .f32) (ix1 j)
  ow k v := (m ((c.tc : Thread nD τ).loc main_arg11) : FVec Ideal S256x32000 .f32) (ix2 k v)
  ob v := (m ((c.tc : Thread nD τ).loc main_arg12) : FVec Ideal S32000 .f32) (ix1 v)

/-- Window 2's block is the network's `w1`. -/
theorem iblk2_net (c : Dev nD) (t : Fin cfg0.N) (i : Fin 256) (k : Fin 512) : (iblk m c 2 t : FVec Ideal S256x512 .f32) (ix2 i k) = (netK m c).w1 i k :=
  (iblk2_apply m c t i k).trans (congrFun (V_main_arg2 m c) (ix2 i k))
/-- Window 3's block is the network's `b1`. -/
theorem iblk3_net (c : Dev nD) (t : Fin cfg0.N) (k : Fin 512) : (iblk m c 3 t : FVec Ideal S1x512 .f32) (ix2 0 k) = (netK m c).b1 k :=
  (iblk3_apply m c t 0 k).trans (V_main_v9 m c k)
/-- Window 4's block is the network's `w2`. -/
theorem iblk4_net (c : Dev nD) (t : Fin cfg0.N) (i : Fin 512) (k : Fin 256) : (iblk m c 4 t : FVec Ideal S512x256 .f32) (ix2 i k) = (netK m c).w2 i k :=
  (iblk4_apply m c t i k).trans (congrFun (V_main_arg4 m c) (ix2 i k))
/-- Window 5's block is the network's `b2`. -/
theorem iblk5_net (c : Dev nD) (t : Fin cfg0.N) (k : Fin 256) : (iblk m c 5 t : FVec Ideal S1x256 .f32) (ix2 0 k) = (netK m c).b2 k :=
  (iblk5_apply m c t 0 k).trans (V_main_v10 m c k)
/-- Window 6's block is the network's `g`. -/
theorem iblk6_net (c : Dev nD) (t : Fin cfg0.N) (k : Fin 256) : (iblk m c 6 t : FVec Ideal S1x256 .f32) (ix2 0 k) = (netK m c).g k :=
  (iblk6_apply m c t 0 k).trans (V_main_v11 m c k)
/-- Window 7's block is the network's `b`. -/
theorem iblk7_net (c : Dev nD) (t : Fin cfg0.N) (k : Fin 256) : (iblk m c 7 t : FVec Ideal S1x256 .f32) (ix2 0 k) = (netK m c).b k :=
  (iblk7_apply m c t 0 k).trans (V_main_v12 m c k)
/-- Window 8's block is the network's `kp`. -/
theorem iblk8_net (c : Dev nD) (t : Fin cfg0.N) (i : Fin 256) (k : Fin 256) : (iblk m c 8 t : FVec Ideal S256x256 .f32) (ix2 i k) = (netK m c).kp i k :=
  (iblk8_apply m c t i k).trans (congrFun (V_main_arg8 m c) (ix2 i k))
/-- Window 9's block is the network's `rp`. -/
theorem iblk9_net (c : Dev nD) (t : Fin cfg0.N) (i : Fin 256) (k : Fin 256) : (iblk m c 9 t : FVec Ideal S256x256 .f32) (ix2 i k) = (netK m c).rp i k :=
  (iblk9_apply m c t i k).trans (congrFun (V_main_arg9 m c) (ix2 i k))
/-- Window 10's block is the network's `rb`. -/
theorem iblk10_net (c : Dev nD) (t : Fin cfg0.N) (k : Fin 256) : (iblk m c 10 t : FVec Ideal S1x256 .f32) (ix2 0 k) = (netK m c).rb k :=
  (iblk10_apply m c t 0 k).trans (V_main_v13 m c k)

/-- Equal weights and equal embedding rows make equal keys. -/
theorem keyRow_eq {w1 w1' : Fin 256 → Fin 512 → EReal} {b1 b1' : Fin 512 → EReal} {w2 w2' : Fin 512 → Fin 256 → EReal} {b2 b2' g g' b b' : Fin 256 → EReal}
    {kp kp' : Fin 256 → Fin 256 → EReal} {e e' : Fin 256 → EReal} (h1 : ∀ i k, w1 i k = w1' i k) (h2 : ∀ k, b1 k = b1' k) (h3 : ∀ i k, w2 i k = w2' i k)
    (h4 : ∀ k, b2 k = b2' k) (h5 : ∀ k, g k = g' k) (h6 : ∀ k, b k = b' k) (h7 : ∀ i k, kp i k = kp' i k) (h8 : ∀ l, e l = e' l) (j : Fin 256) :
    keyRow w1 b1 w2 b2 g b kp e j = keyRow w1' b1' w2' b2' g' b' kp' e' j := by
  obtain rfl : w1 = w1' := funext fun i => funext (h1 i)
  obtain rfl : b1 = b1' := funext h2
  obtain rfl : w2 = w2' := funext fun i => funext (h3 i)
  obtain rfl : b2 = b2' := funext h4
  obtain rfl : g = g' := funext h5
  obtain rfl : b = b' := funext h6
  obtain rfl : kp = kp' := funext fun i => funext (h7 i)
  obtain rfl : e = e' := funext h8
  rfl

/-- A chunk's keys made from a block that holds the chunk's embedding rows. -/
theorem keyBlock_net (c : Dev nD) (t : Fin cfg0.N) (n : Fin 16) (e : Vec Ideal S1x16x1x128x256 .f32)
    (he : ∀ (g : Fin 16) (i : Fin 128) (l : Fin 256), e (ix5 0 g 0 i l) = (V m c main_v8 : FVec Ideal S1x16x16x128x256 .f32) (ix5 0 g n i l))
    (g : Fin 16) (i : Fin 128) (j : Fin 256) :
    keyBlock e (iblk m c 2 t) (iblk m c 3 t) (iblk m c 4 t) (iblk m c 5 t) (iblk m c 6 t) (iblk m c 7 t) (iblk m c 8 t) (ix3 0 ⟨128 * g.val + i.val, by omega⟩ j)
      = (netK m c).key g (128 * n.val + i.val) j := by
  refine (keyBlock_apply e _ _ _ _ _ _ _ _ _).trans
    (keyRow_eq (iblk2_net m c t) (iblk3_net m c t) (iblk4_net m c t) (iblk5_net m c t) (iblk6_net m c t) (iblk7_net m c t) (iblk8_net m c t) (fun l => ?_) j)
  have hd : (⟨(128 * g.val + i.val) / 128, by omega⟩ : Fin 16) = g := Fin.ext (show (128 * g.val + i.val) / 128 = g.val by omega)
  have hm : (⟨(128 * g.val + i.val) % 128, by omega⟩ : Fin 128) = i := Fin.ext (show (128 * g.val + i.val) % 128 = i.val by omega)
  have ht : (⟨(128 * n.val + i.val) % 2048, Nat.mod_lt _ (by decide)⟩ : Fin 2048) = ⟨128 * n.val + i.val, by omega⟩ :=
    Fin.ext (show (128 * n.val + i.val) % 2048 = 128 * n.val + i.val by omega)
  rw [hd, hm, ht]
  exact (he g i l).trans ((congrFun (V_main_v8 m c) _).trans (chunkRows_apply _ _ g n i l))

/-- A chunk's keys at an index. -/
theorem keyAt_apply (c : Dev nD) (n : ℕ) (hn : n < 16) (g : Fin 16) (i : Fin 128) (j : Fin 256) :
    keyAt m c n (ix3 0 ⟨128 * g.val + i.val, by omega⟩ j) = (netK m c).key g (128 * n + i.val) j := by
  match n, hn with
  | 0, _ => exact keyBlock_net m c (pt 0) 0 _ (fun g i l => iblk0_apply m c (pt 0) 0 rfl g i l) g i j
  | n + 1, hn =>
    refine keyBlock_net m c (pt n) ⟨n + 1, hn⟩ _ (fun g i l => iblk1_apply m c (pt n) ⟨n + 1, hn⟩ ?_ g i l) g i j
    show min (n % 26 + 1) 15 = n + 1
    omega

/-- A sequence's memory after the first `n` chunks. -/
theorem memAt_apply (c : Dev nD) (n : ℕ) (hn : n ≤ 16) (g : Fin 16) (a b : Fin 256) :
    memAt m c n g (ix2 a b) = blocksE epsE (fun t j => if t < 2047 then (netK m c).key g t j else 0) n a b := by
  induction n generalizing a b with
  | zero => pointwise [memAt, zeroMem, blocksE]
  | succ n ih =>
    show headStep (BitVec.ofNat 32 n) (headRows g (keyAt m c n)) (memAt m c n g) (ix2 a b) = _
    rw [headStep_apply n (by omega)]
    simp only [headRows_apply, keyAt_apply m c n (by omega), ih (by omega)]
    rfl

/-- The read-out rows. -/
theorem rrAt_apply (c : Dev nD) (g : Fin 16) (j : Fin 256) : rrAt m c (ix2 g j) = (netK m c).read g j := by
  rw [rrAt, readOut_apply]
  have hk : ∀ l : Fin 256, headRows g (keyAt m c 15) (ix2 127 l) = (netK m c).key g 2047 l := fun l => by
    rw [headRows_apply]; exact keyAt_apply m c 15 (by decide) g 127 l
  rw [Net.read, iblk10_net]
  refine congrArg (· + _) (Finset.sum_congr rfl fun i _ => ?_)
  rw [iblk9_net]
  refine congrArg (· * _) (Finset.sum_congr rfl fun l _ => ?_)
  rw [hk, memAt_apply m c 16 (le_refl _), Net.mem_blocks, mul_comm]

/-- The network's result as an array. -/
def netOut (N : Net) : FVec Ideal S16x32000 .f32 := fun i => N.out (i 0) (i 1)

/-- The output array ends holding the network's result. -/
theorem final_value (c : Dev nD) : (dats m 0 c).arrAt 13 cfg0.N = netOut (netK m c) := by
  refine (dats m 0 c).arrAt_eq_of_covers 13 _ (by decide +kernel) fun t hf y => ?_
  rw [after0_13]
  blk_simp [index0_13]
  idx_vars y
  have hN : t.val < 26 := lt_of_lt_of_eq t.isLt N_0
  have hv : min (t.val - 16) 9 * 3200 + y1.val < 32000 := by omega
  have he : ((View.whole main_v15).slice (win0_13.rect t)).emb (ix2 y0 y1) = (ix2 y0 ⟨min (t.val - 16) 9 * 3200 + y1.val, hv⟩ : S16x32000.Idx) := by
    blk_ext [index0_13]
  refine (pay9_apply _ _ _ y0 y1).trans (Eq.trans ?_ (congrArg (netOut (netK m c)) he).symm)
  show _ = (netK m c).out y0 ⟨min (t.val - 16) 9 * 3200 + y1.val, hv⟩
  rw [Net.out]
  refine congrArg₂ (· + ·) (Finset.sum_congr rfl fun k _ => ?_) ?_
  · exact congrArg₂ (· * ·) (rrAt_apply m c y0 k) ((iblk11_apply m c t k y1 _ rfl).trans (congrFun (V_main_arg11 m c) _))
  · exact (iblk12_apply m c t 0 y1 _ rfl).trans (V_main_v14 m c _)

end Cert.KernelIdeal.Gen

end
-- ==== Proof.Ref.lean ====
/- The frame of the reference: its arguments are in none of the lists of what its operations write. -/
module

public import proofs.«01_k».proof.Proof.Gen.ReferenceIdeal.Run
public import Idealize.ShloMosaic.Lib.Quiescent
public import Idealize.ShloMosaic.Lib.Claim

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]
variable (m : (ℓ : Loc nD τ sig) → Buf (Elt F) ℓ) (ρ : Dev nD → PrngReg)

/-- What the operations after the loop write. -/
abbrev hostOps0_1_W : List (Ref sig .tc) :=
  [main_v47, main_v48, main_v49, main_v50, main_v51, main_v52, main_v53, main_v54, main_v55, main_v56, main_v57]

/-- The operations after the loop write no other buffer. -/
theorem hostOps0_1_writes : (hostOps0_1 : List (HloOp τ sig (Elt F))).Forall fun op =>
    op.writes ⊆ (hostOps0_1_W.map (Proc.devRef (τ := τ) .tc)).toFinset := by
  simp only [List.Forall, StableHlo.unary_writes, StableHlo.binary_writes, StableHlo.reshape_writes, Finset.singleton_subset_iff]
  decide

/-- A buffer that no operation of the loop's body or condition writes holds after any number of trips what it held before them. -/
theorem trips_keep (V : Dev nD → Valuation τ sig (Elt F)) (c : Dev nD) (r : Ref sig .tc) (hc : r ∉ condOps_W) (hb : r ∉ while0Ops0_W) (hb1 : r ∉ while0Ops0_1_W)
    (hb2 : r ∉ while0Ops0_2_W) : ∀ k, atTrip condOps bodyI V k c (Proc.devRef .tc r) = V c (Proc.devRef .tc r)
  | 0 => rfl
  | k + 1 => by
    rw [show atTrip condOps bodyI V (k + 1) c = afterL bodyI (after condOps (atTrip condOps bodyI V k c)) from rfl]
    simp only [afterL_cons, afterL_nil]
    rw [after_of_writes_sub while0Ops0_2 _ while0Ops0_2_writes hb2, after_of_writes_sub while0Ops0_1 _ while0Ops0_1_writes hb1,
      after_of_writes_sub while0Ops0 _ while0Ops0_writes hb, after_of_writes_sub condOps _ condOps_writes hc, trips_keep V c r hc hb hb1 hb2 k]

/-- A buffer that no operation writes ends as it began. -/
theorem final_keep (c : Dev nD) (r : Ref sig .tc) (h0 : r ∉ hostOps0_W) (hc : r ∉ condOps_W) (hb : r ∉ while0Ops0_W) (hb1 : r ∉ while0Ops0_1_W)
    (hb2 : r ∉ while0Ops0_2_W) (h1 : r ∉ hostOps0_1_W) :
    finalContents condOps preI bodyI postI 2047 m c (Proc.devRef .tc r) = m ((c.tc : Thread nD τ).loc r) := by
  rw [show finalContents condOps preI bodyI postI 2047 m c = afterL postI (after condOps (atTrip condOps bodyI (entryContents preI m) 2047 c)) from rfl]
  simp only [afterL_cons, afterL_nil]
  rw [after_of_writes_sub hostOps0_1 _ hostOps0_1_writes h1, after_of_writes_sub condOps _ condOps_writes hc, trips_keep _ c r hc hb hb1 hb2 2047]
  simp only [entryContents, afterL_cons, afterL_nil]
  rw [after_of_writes_sub hostOps0 _ hostOps0_writes h0]

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h c main_arg0 (by decide)).trans (final_keep m c main_arg0 (by decide +kernel) (by decide +kernel) (by decide +kernel) (by decide +kernel) (by decide +kernel) (by decide +kernel)),
      (h c main_arg1 (by decide)).trans (final_keep m c main_arg1 (by decide +kernel) (by decide +kernel) (by decide +kernel) (by decide +kernel) (by decide +kernel) (by decide +kernel)),
      (h c main_arg2 (by decide)).trans (final_keep m c main_arg2 (by decide +kernel) (by decide +kernel) (by decide +kernel) (by decide +kernel) (by decide +kernel) (by decide +kernel)),
      (h c main_arg3 (by decide)).trans (final_keep m c main_arg3 (by decide +kernel) (by decide +kernel) (by decide +kernel) (by decide +kernel) (by decide +kernel) (by decide +kernel)),
      (h c main_arg4 (by decide)).trans (final_keep m c main_arg4 (by decide +kernel) (by decide +kernel) (by decide +kernel) (by decide +kernel) (by decide +kernel) (by decide +kernel)),
      (h c main_arg5 (by decide)).trans (final_keep m c main_arg5 (by decide +kernel) (by decide +kernel) (by decide +kernel) (by decide +kernel) (by decide +kernel) (by decide +kernel)),
      (h c main_arg6 (by decide)).trans (final_keep m c main_arg6 (by decide +kernel) (by decide +kernel) (by decide +kernel) (by decide +kernel) (by decide +kernel) (by decide +kernel)),
      (h c main_arg7 (by decide)).trans (final_keep m c main_arg7 (by decide +kernel) (by decide +kernel) (by decide +kernel) (by decide +kernel) (by decide +kernel) (by decide +kernel)),
      (h c main_arg8 (by decide)).trans (final_keep m c main_arg8 (by decide +kernel) (by decide +kernel) (by decide +kernel) (by decide +kernel) (by decide +kernel) (by decide +kernel)),
      (h c main_arg9 (by decide)).trans (final_keep m c main_arg9 (by decide +kernel) (by decide +kernel) (by decide +kernel) (by decide +kernel) (by decide +kernel) (by decide +kernel)),
      (h c main_arg10 (by decide)).trans (final_keep m c main_arg10 (by decide +kernel) (by decide +kernel) (by decide +kernel) (by decide +kernel) (by decide +kernel) (by decide +kernel)),
      (h c main_arg11 (by decide)).trans (final_keep m c main_arg11 (by decide +kernel) (by decide +kernel) (by decide +kernel) (by decide +kernel) (by decide +kernel) (by decide +kernel)),
      (h c main_arg12 (by decide)).trans (final_keep m c main_arg12 (by decide +kernel) (by decide +kernel) (by decide +kernel) (by decide +kernel) (by decide +kernel) (by decide +kernel))⟩, sem_eq_zero_of_no_sems (by decide) r.2⟩) (run_fold m ρ)

end Cert.ReferenceIdeal.Value

end
-- ==== Proof.RefEntry.lean ====
/- What the reference computes before its loop: the keys of every position, read at an index over the extended reals. -/
module

public import proofs.«01_k».proof.Proof.Ref
public import proofs.«01_k».proof.Proof.Math
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo
open Cert.Delta

variable {F : FTy → Type} [FloatOps F]

/-! ## The operations before the loop, in five parts -/

/-- The operations before the loop, part 0: the embedding rows. -/
abbrev pre_w0 : List (HloOp τ sig (Elt F)) :=
  [ StableHlo.nullary main_c (constantI S_ 32 0#32),
    StableHlo.unary main_c main_v0 (broadcastInDim S16x2048 ![] bcast_S_S16x2048 : (⟨S_, .i32⟩ : BufTy).Contents (Elt F) → (⟨S16x2048, .i32⟩ : BufTy).Contents (Elt F)),
    StableHlo.binary main_arg0 main_v0 main_v1 (cmpi .slt : (⟨S16x2048, .i32⟩ : BufTy).Contents (Elt F) → (⟨S16x2048, .i32⟩ : BufTy).Contents (Elt F) → (⟨S16x2048, .i1⟩ : BufTy).Contents (Elt F)),
    StableHlo.nullary main_c_0 (constantI S_ 32 32000#32),
    StableHlo.unary main_c_0 main_v2 (broadcastInDim S16x2048 ![] bcast_S_S16x2048 : (⟨S_, .i32⟩ : BufTy).Contents (Elt F) → (⟨S16x2048, .i32⟩ : BufTy).Contents (Elt F)),
    StableHlo.binary main_arg0 main_v2 main_v3 (addi : (⟨S16x2048, .i32⟩ : BufTy).Contents (Elt F) → (⟨S16x2048, .i32⟩ : BufTy).Contents (Elt F) → (⟨S16x2048, .i32⟩ : BufTy).Contents (Elt F)),
    StableHlo.ternary main_v1 main_v3 main_arg0 main_v4 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    StableHlo.unary main_v4 main_v5 (broadcastInDim S16x2048x1 ![0, 1] bcast_S16x2048_S16x2048x1_0_1 : (⟨S16x2048, .i32⟩ : BufTy).Contents (Elt F) → (⟨S16x2048x1, .i32⟩ : BufTy).Contents (Elt F)),
    StableHlo.binary main_arg1 main_v5 main_v6 ((fun x i => Host.gather gather_S32000x256_S16x2048x1_S16x2048x256_2_0_n_n_0_2_1256 x i) : (⟨S32000x256, .f32⟩ : BufTy).Contents (Elt F) → (⟨S16x2048x1, .i32⟩ : BufTy).Contents (Elt F) → (⟨S16x2048x256, .f32⟩ : BufTy).Contents (Elt F)) ]

/-- What part 0 writes. -/
abbrev pre_w0_W : List (Ref sig .tc) := [main_c, main_v0, main_v1, main_c_0, main_v2, main_v3, main_v4, main_v5, main_v6]

/-- Part 0 writes no other buffer. -/
theorem pre_w0_writes : (pre_w0 : List (HloOp τ sig (Elt F))).Forall fun op =>
    op.writes ⊆ (pre_w0_W.map (Proc.devRef (τ := τ) .tc)).toFinset := by
  simp only [List.Forall, StableHlo.nullary_writes, StableHlo.unary_writes, StableHlo.binary_writes, StableHlo.ternary_writes, Finset.singleton_subset_iff]
  decide

/-- The operations before the loop, part 1: the feed-forward part. -/
abbrev pre_w1 : List (HloOp τ sig (Elt F)) :=
  [ StableHlo.binary main_v6 main_arg2 main_v7 ((fun l r => Host.dotGeneral dot_S16x2048x256_S256x512_S16x2048x512_2_0_01_1_n_n none l r) : (⟨S16x2048x256, .f32⟩ : BufTy).Contents (Elt F) → (⟨S256x512, .f32⟩ : BufTy).Contents (Elt F) → (⟨S16x2048x512, .f32⟩ : BufTy).Contents (Elt F)),
    StableHlo.unary main_arg3 main_v8 (broadcastInDim S1x1x512 ![2] bcast_S512_S1x1x512_2 : (⟨S512, .f32⟩ : BufTy).Contents (Elt F) → (⟨S1x1x512, .f32⟩ : BufTy).Contents (Elt F)),
    StableHlo.unary main_v8 main_v9 (broadcastInDim S16x2048x512 ![0, 1, 2] bcast_S1x1x512_S16x2048x512_0_1_2 : (⟨S1x1x512, .f32⟩ : BufTy).Contents (Elt F) → (⟨S16x2048x512, .f32⟩ : BufTy).Contents (Elt F)),
    StableHlo.binary main_v7 main_v9 main_v10 (addf : (⟨S16x2048x512, .f32⟩ : BufTy).Contents (Elt F) → (⟨S16x2048x512, .f32⟩ : BufTy).Contents (Elt F) → (⟨S16x2048x512, .f32⟩ : BufTy).Contents (Elt F)),
    StableHlo.nullary main_cst (constant S_ .f32 0x00000000#32),
    StableHlo.unary main_cst main_v11 (broadcastInDim S16x2048x512 ![] bcast_S_S16x2048x512 : (⟨S_, .f32⟩ : BufTy).Contents (Elt F) → (⟨S16x2048x512, .f32⟩ : BufTy).Contents (Elt F)),
    StableHlo.binary main_v10 main_v11 main_v12 (maximumf : (⟨S16x2048x512, .f32⟩ : BufTy).Contents (Elt F) → (⟨S16x2048x512, .f32⟩ : BufTy).Contents (Elt F) → (⟨S16x2048x512, .f32⟩ : BufTy).Contents (Elt F)),
    StableHlo.binary main_v12 main_arg4 main_v13 ((fun l r => Host.dotGeneral dot_S16x2048x512_S512x256_S16x2048x256_2_0_01_1_n_n none l r) : (⟨S16x2048x512, .f32⟩ : BufTy).Contents (Elt F) → (⟨S512x256, .f32⟩ : BufTy).Contents (Elt F) → (⟨S16x2048x256, .f32⟩ : BufTy).Contents (Elt F)),
    StableHlo.unary main_arg5 main_v14 (broadcastInDim S1x1x256 ![2] bcast_S256_S1x1x256_2 : (⟨S256, .f32⟩ : BufTy).Contents (Elt F) → (⟨S1x1x256, .f32⟩ : BufTy).Contents (Elt F)),
    StableHlo.unary main_v14 main_v15 (broadcastInDim S16x2048x256 ![0, 1, 2] bcast_S1x1x256_S16x2048x256_0_1_2 : (⟨S1x1x256, .f32⟩ : BufTy).Contents (Elt F) → (⟨S16x2048x256, .f32⟩ : BufTy).Contents (Elt F)),
    StableHlo.binary main_v13 main_v15 main_v16 (addf : (⟨S16x2048x256, .f32⟩ : BufTy).Contents (Elt F) → (⟨S16x2048x256, .f32⟩ : BufTy).Contents (Elt F) → (⟨S16x2048x256, .f32⟩ : BufTy).Contents (Elt F)),
    StableHlo.binary main_v6 main_v16 main_v17 (addf : (⟨S16x2048x256, .f32⟩ : BufTy).Contents (Elt F) → (⟨S16x2048x256, .f32⟩ : BufTy).Contents (Elt F) → (⟨S16x2048x256, .f32⟩ : BufTy).Contents (Elt F)) ]

/-- What part 1 writes. -/
abbrev pre_w1_W : List (Ref sig .tc) := [main_v7, main_v8, main_v9, main_v10, main_cst, main_v11, main_v12, main_v13, main_v14, main_v15, main_v16, main_v17]

/-- Part 1 writes no other buffer. -/
theorem pre_w1_writes : (pre_w1 : List (HloOp τ sig (Elt F))).Forall fun op =>
    op.writes ⊆ (pre_w1_W.map (Proc.devRef (τ := τ) .tc)).toFinset := by
  simp only [List.Forall, StableHlo.nullary_writes, StableHlo.unary_writes, StableHlo.binary_writes, StableHlo.ternary_writes, Finset.singleton_subset_iff]
  decide

/-- The operations before the loop, part 2: the normalization. -/
abbrev pre_w2 : List (HloOp τ sig (Elt F)) :=
  [ StableHlo.nullary main_cst_1 (constant S_ .f32 0x00000000#32),
    StableHlo.binary main_v17 main_cst_1 main_v18 ((fun x v => Host.reduceAdd x v reducesTo_S16x2048x256_S16x2048_d2 h_S_) : (⟨S16x2048x256, .f32⟩ : BufTy).Contents (Elt F) → (⟨S_, .f32⟩ : BufTy).Contents (Elt F) → (⟨S16x2048, .f32⟩ : BufTy).Contents (Elt F)),
    StableHlo.unary main_v18 main_v19 (broadcastInDim S16x2048x1 ![0, 1] bcast_S16x2048_S16x2048x1_0_1 : (⟨S16x2048, .f32⟩ : BufTy).Contents (Elt F) → (⟨S16x2048x1, .f32⟩ : BufTy).Contents (Elt F)),
    StableHlo.nullary main_cst_2 (constant S_ .f32 0x43800000#32),
    StableHlo.unary main_cst_2 main_v20 (broadcastInDim S16x2048x1 ![] bcast_S_S16x2048x1 : (⟨S_, .f32⟩ : BufTy).Contents (Elt F) → (⟨S16x2048x1, .f32⟩ : BufTy).Contents (Elt F)),
    StableHlo.binary main_v19 main_v20 main_v21 (Host.divf : (⟨S16x2048x1, .f32⟩ : BufTy).Contents (Elt F) → (⟨S16x2048x1, .f32⟩ : BufTy).Contents (Elt F) → (⟨S16x2048x1, .f32⟩ : BufTy).Contents (Elt F)),
    StableHlo.unary main_v21 main_v22 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    StableHlo.binary main_v17 main_v22 main_v23 (subf : (⟨S16x2048x256, .f32⟩ : BufTy).Contents (Elt F) → (⟨S16x2048x256, .f32⟩ : BufTy).Contents (Elt F) → (⟨S16x2048x256, .f32⟩ : BufTy).Contents (Elt F)),
    StableHlo.binary main_v23 main_v23 main_v24 (mulf : (⟨S16x2048x256, .f32⟩ : BufTy).Contents (Elt F) → (⟨S16x2048x256, .f32⟩ : BufTy).Contents (Elt F) → (⟨S16x2048x256, .f32⟩ : BufTy).Contents (Elt F)),
    StableHlo.nullary main_cst_3 (constant S_ .f32 0x00000000#32),
    StableHlo.binary main_v24 main_cst_3 main_v25 ((fun x v => Host.reduceAdd x v reducesTo_S16x2048x256_S16x2048_d2 h_S_) : (⟨S16x2048x256, .f32⟩ : BufTy).Contents (Elt F) → (⟨S_, .f32⟩ : BufTy).Contents (Elt F) → (⟨S16x2048, .f32⟩ : BufTy).Contents (Elt F)),
    StableHlo.unary main_v25 main_v26 (broadcastInDim S16x2048x1 ![0, 1] bcast_S16x2048_S16x2048x1_0_1 : (⟨S16x2048, .f32⟩ : BufTy).Contents (Elt F) → (⟨S16x2048x1, .f32⟩ : BufTy).Contents (Elt F)),
    StableHlo.nullary main_cst_4 (constant S_ .f32 0x43800000#32),
    StableHlo.unary main_cst_4 main_v27 (broadcastInDim S16x2048x1 ![] bcast_S_S16x2048x1 : (⟨S_, .f32⟩ : BufTy).Contents (Elt F) → (⟨S16x2048x1, .f32⟩ : BufTy).Contents (Elt F)),
    StableHlo.binary main_v26 main_v27 main_v28 (Host.divf : (⟨S16x2048x1, .f32⟩ : BufTy).Contents (Elt F) → (⟨S16x2048x1, .f32⟩ : BufTy).Contents (Elt F) → (⟨S16x2048x1, .f32⟩ : BufTy).Contents (Elt F)),
    StableHlo.unary main_v21 main_v29 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    StableHlo.binary main_v17 main_v29 main_v30 (subf : (⟨S16x2048x256, .f32⟩ : BufTy).Contents (Elt F) → (⟨S16x2048x256, .f32⟩ : BufTy).Contents (Elt F) → (⟨S16x2048x256, .f32⟩ : BufTy).Contents (Elt F)),
    StableHlo.nullary main_cst_5 (constant S_ .f32 0x3727C5AC#32),
    StableHlo.unary main_cst_5 main_v31 (broadcastInDim S16x2048x1 ![] bcast_S_S16x2048x1 : (⟨S_, .f32⟩ : BufTy).Contents (Elt F) → (⟨S16x2048x1, .f32⟩ : BufTy).Contents (Elt F)),
    StableHlo.binary main_v28 main_v31 main_v32 (addf : (⟨S16x2048x1, .f32⟩ : BufTy).Contents (Elt F) → (⟨S16x2048x1, .f32⟩ : BufTy).Contents (Elt F) → (⟨S16x2048x1, .f32⟩ : BufTy).Contents (Elt F)),
    StableHlo.unary main_v32 main_v33 (Host.rsqrt : (⟨S16x2048x1, .f32⟩ : BufTy).Contents (Elt F) → (⟨S16x2048x1, .f32⟩ : BufTy).Contents (Elt F)),
    StableHlo.unary main_v33 main_v34 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    StableHlo.binary main_v30 main_v34 main_v35 (mulf : (⟨S16x2048x256, .f32⟩ : BufTy).Contents (Elt F) → (⟨S16x2048x256, .f32⟩ : BufTy).Contents (Elt F) → (⟨S16x2048x256, .f32⟩ : BufTy).Contents (Elt F)) ]

/-- What part 2 writes. -/
abbrev pre_w2_W : List (Ref sig .tc) := [main_cst_1, main_v18, main_v19, main_cst_2, main_v20, main_v21, main_v22, main_v23, main_v24, main_cst_3, main_v25, main_v26, main_cst_4, main_v27, main_v28, main_v29, main_v30, main_cst_5, main_v31, main_v32, main_v33, main_v34, main_v35]

/-- Part 2 writes no other buffer. -/
theorem pre_w2_writes : (pre_w2 : List (HloOp τ sig (Elt F))).Forall fun op =>
    op.writes ⊆ (pre_w2_W.map (Proc.devRef (τ := τ) .tc)).toFinset := by
  simp only [List.Forall, StableHlo.nullary_writes, StableHlo.unary_writes, StableHlo.binary_writes, StableHlo.ternary_writes, Finset.singleton_subset_iff]
  decide

/-- The operations before the loop, part 3: the keys. -/
abbrev pre_w3 : List (HloOp τ sig (Elt F)) :=
  [ StableHlo.unary main_arg6 main_v36 (broadcastInDim S1x1x256 ![2] bcast_S256_S1x1x256_2 : (⟨S256, .f32⟩ : BufTy).Contents (Elt F) → (⟨S1x1x256, .f32⟩ : BufTy).Contents (Elt F)),
    StableHlo.unary main_v36 main_v37 (broadcastInDim S16x2048x256 ![0, 1, 2] bcast_S1x1x256_S16x2048x256_0_1_2 : (⟨S1x1x256, .f32⟩ : BufTy).Contents (Elt F) → (⟨S16x2048x256, .f32⟩ : BufTy).Contents (Elt F)),
    StableHlo.binary main_v35 main_v37 main_v38 (mulf : (⟨S16x2048x256, .f32⟩ : BufTy).Contents (Elt F) → (⟨S16x2048x256, .f32⟩ : BufTy).Contents (Elt F) → (⟨S16x2048x256, .f32⟩ : BufTy).Contents (Elt F)),
    StableHlo.unary main_arg7 main_v39 (broadcastInDim S1x1x256 ![2] bcast_S256_S1x1x256_2 : (⟨S256, .f32⟩ : BufTy).Contents (Elt F) → (⟨S1x1x256, .f32⟩ : BufTy).Contents (Elt F)),
    StableHlo.unary main_v39 main_v40 (broadcastInDim S16x2048x256 ![0, 1, 2] bcast_S1x1x256_S16x2048x256_0_1_2 : (⟨S1x1x256, .f32⟩ : BufTy).Contents (Elt F) → (⟨S16x2048x256, .f32⟩ : BufTy).Contents (Elt F)),
    StableHlo.binary main_v38 main_v40 main_v41 (addf : (⟨S16x2048x256, .f32⟩ : BufTy).Contents (Elt F) → (⟨S16x2048x256, .f32⟩ : BufTy).Contents (Elt F) → (⟨S16x2048x256, .f32⟩ : BufTy).Contents (Elt F)),
    StableHlo.binary main_v41 main_arg8 main_v42 ((fun l r => Host.dotGeneral dot_S16x2048x256_S256x256_S16x2048x256_2_0_01_1_n_n none l r) : (⟨S16x2048x256, .f32⟩ : BufTy).Contents (Elt F) → (⟨S256x256, .f32⟩ : BufTy).Contents (Elt F) → (⟨S16x2048x256, .f32⟩ : BufTy).Contents (Elt F)) ]

/-- What part 3 writes. -/
abbrev pre_w3_W : List (Ref sig .tc) := [main_v36, main_v37, main_v38, main_v39, main_v40, main_v41, main_v42]

/-- Part 3 writes no other buffer. -/
theorem pre_w3_writes : (pre_w3 : List (HloOp τ sig (Elt F))).Forall fun op =>
    op.writes ⊆ (pre_w3_W.map (Proc.devRef (τ := τ) .tc)).toFinset := by
  simp only [List.Forall, StableHlo.nullary_writes, StableHlo.unary_writes, StableHlo.binary_writes, StableHlo.ternary_writes, Finset.singleton_subset_iff]
  decide

/-- The operations before the loop, part 4: the loop's first values. -/
abbrev pre_w4 : List (HloOp τ sig (Elt F)) :=
  [ StableHlo.nullary main_cst_6 (constant S_ .f32 0x00000000#32),
    StableHlo.unary main_cst_6 main_v43 (broadcastInDim S16x256x256 ![] bcast_S_S16x256x256 : (⟨S_, .f32⟩ : BufTy).Contents (Elt F) → (⟨S16x256x256, .f32⟩ : BufTy).Contents (Elt F)),
    StableHlo.unary main_v42 main_v44 ((extractStridedSlice S16x2047x256 ![0, 0, 0] · slices_S16x2048x256_S16x2047x256_0_0_0) : (⟨S16x2048x256, .f32⟩ : BufTy).Contents (Elt F) → (⟨S16x2047x256, .f32⟩ : BufTy).Contents (Elt F)),
    StableHlo.unary main_v44 main_v45 ((transpose S2047x16x256 [1, 0, 2] · transposes_S16x2047x256_S2047x16x256_1_0_2) : (⟨S16x2047x256, .f32⟩ : BufTy).Contents (Elt F) → (⟨S2047x16x256, .f32⟩ : BufTy).Contents (Elt F)),
    StableHlo.nullary main_c_7 (constantI S_ 32 0#32),
    StableHlo.unary main_v45 main_v46_0 id,
    StableHlo.unary main_c_7 main_v46_1 id,
    StableHlo.unary main_v43 main_v46_2 id ]

/-- What part 4 writes. -/
abbrev pre_w4_W : List (Ref sig .tc) := [main_cst_6, main_v43, main_v44, main_v45, main_c_7, main_v46_0, main_v46_1, main_v46_2]

/-- Part 4 writes no other buffer. -/
theorem pre_w4_writes : (pre_w4 : List (HloOp τ sig (Elt F))).Forall fun op =>
    op.writes ⊆ (pre_w4_W.map (Proc.devRef (τ := τ) .tc)).toFinset := by
  simp only [List.Forall, StableHlo.nullary_writes, StableHlo.unary_writes, StableHlo.binary_writes, StableHlo.ternary_writes, Finset.singleton_subset_iff]
  decide

set_option maxRecDepth 8192 in
/-- The operations before the loop are their parts in order. -/
theorem hostOps0_cut : (hostOps0 : List (HloOp τ sig (Elt F))) = pre_w0 ++ (pre_w1 ++ (pre_w2 ++ (pre_w3 ++ pre_w4))) := rfl

/-! ## What each part leaves -/

/-- The row numbers read from the table: a negative one counts from its end. -/
def rowsOf (seq : IVec S16x2048 32) : IVec S16x2048x1 32 :=
  broadcastInDim S16x2048x1 ![0, 1] bcast_S16x2048_S16x2048x1_0_1
    (select (cmpi .slt seq (broadcastInDim S16x2048 ![] bcast_S_S16x2048 (constantI S_ 32 0#32)))
      (addi seq (broadcastInDim S16x2048 ![] bcast_S_S16x2048 (constantI S_ 32 32000#32))) seq)

/-- The embedding rows. -/
def embRows (seq : IVec S16x2048 32) (emb : FVec F S32000x256 .f32) : FVec F S16x2048x256 .f32 :=
  Host.gather gather_S32000x256_S16x2048x1_S16x2048x256_2_0_n_n_0_2_1256 emb (rowsOf seq)

/-- The embedding rows and what the feed-forward network adds to them. -/
def ffnRows (e : FVec F S16x2048x256 .f32) (w1 : FVec F S256x512 .f32) (b1 : FVec F S512 .f32) (w2 : FVec F S512x256 .f32) (b2 : FVec F S256 .f32) :
    FVec F S16x2048x256 .f32 :=
  addf e (addf (Host.dotGeneral dot_S16x2048x512_S512x256_S16x2048x256_2_0_01_1_n_n none
    (maximumf (addf (Host.dotGeneral dot_S16x2048x256_S256x512_S16x2048x512_2_0_01_1_n_n none e w1)
      (broadcastInDim S16x2048x512 ![0, 1, 2] bcast_S1x1x512_S16x2048x512_0_1_2 (broadcastInDim S1x1x512 ![2] bcast_S512_S1x1x512_2 b1)))
      (broadcastInDim S16x2048x512 ![] bcast_S_S16x2048x512 (constant S_ .f32 0x00000000#32))) w2)
    (broadcastInDim S16x2048x256 ![0, 1, 2] bcast_S1x1x256_S16x2048x256_0_1_2 (broadcastInDim S1x1x256 ![2] bcast_S256_S1x1x256_2 b2)))

/-- The mean of each row. -/
def rowMean (x : FVec F S16x2048x256 .f32) : FVec F S16x2048x1 .f32 :=
  Host.divf (broadcastInDim S16x2048x1 ![0, 1] bcast_S16x2048_S16x2048x1_0_1
      (Host.reduceAdd x (constant S_ .f32 0x00000000#32) reducesTo_S16x2048x256_S16x2048_d2 h_S_))
    (broadcastInDim S16x2048x1 ![] bcast_S_S16x2048x1 (constant S_ .f32 0x43800000#32))

/-- Each row less its mean. -/
def centred (x : FVec F S16x2048x256 .f32) : FVec F S16x2048x256 .f32 :=
  subf x (broadcastInDim S16x2048x256 ![0, 1, 2] bcast_S16x2048x1_S16x2048x256_0_1_2 (rowMean x))

/-- Each row less its mean, over its standard deviation. -/
def normRows (x : FVec F S16x2048x256 .f32) : FVec F S16x2048x256 .f32 :=
  mulf (centred x) (broadcastInDim S16x2048x256 ![0, 1, 2] bcast_S16x2048x1_S16x2048x256_0_1_2
    (Host.rsqrt (addf (rowMean (mulf (centred x) (centred x))) (broadcastInDim S16x2048x1 ![] bcast_S_S16x2048x1 (constant S_ .f32 0x3727C5AC#32)))))

/-- The keys of the normalized rows. -/
def keyRows (x : FVec F S16x2048x256 .f32) (g b : FVec F S256 .f32) (kp : FVec F S256x256 .f32) : FVec F S16x2048x256 .f32 :=
  Host.dotGeneral dot_S16x2048x256_S256x256_S16x2048x256_2_0_01_1_n_n none
    (addf (mulf x (broadcastInDim S16x2048x256 ![0, 1, 2] bcast_S1x1x256_S16x2048x256_0_1_2 (broadcastInDim S1x1x256 ![2] bcast_S256_S1x1x256_2 g)))
      (broadcastInDim S16x2048x256 ![0, 1, 2] bcast_S1x1x256_S16x2048x256_0_1_2 (broadcastInDim S1x1x256 ![2] bcast_S256_S1x1x256_2 b))) kp

/-- The keys that the loop runs through, position by position. -/
def loopKeys (k : FVec F S16x2048x256 .f32) : FVec F S2047x16x256 .f32 :=
  transpose S2047x16x256 [1, 0, 2] (extractStridedSlice S16x2047x256 ![0, 0, 0] k slices_S16x2048x256_S16x2047x256_0_0_0)
    transposes_S16x2047x256_S2047x16x256_1_0_2

variable (V : Valuation τ sig (Elt F))

/-- Part 0 leaves the embedding rows. -/
theorem w0_rows : after pre_w0 V (Proc.devRef .tc main_v6) = embRows (V (Proc.devRef .tc main_arg0)) (V (Proc.devRef .tc main_arg1)) := by
  simp only [pre_w0]; after_reads_simp; rfl

/-- Part 1 leaves the rows after the feed-forward network. -/
theorem w1_rows : after pre_w1 V (Proc.devRef .tc main_v17) = ffnRows (V (Proc.devRef .tc main_v6)) (V (Proc.devRef .tc main_arg2))
    (V (Proc.devRef .tc main_arg3)) (V (Proc.devRef .tc main_arg4)) (V (Proc.devRef .tc main_arg5)) := by
  simp only [pre_w1]; after_reads_simp; rfl

/-- Part 2 leaves the normalized rows. -/
theorem w2_rows : after pre_w2 V (Proc.devRef .tc main_v35) = normRows (V (Proc.devRef .tc main_v17)) := by
  simp only [pre_w2]; after_reads_simp; rfl

/-- Part 3 leaves the keys. -/
theorem w3_rows : after pre_w3 V (Proc.devRef .tc main_v42) = keyRows (V (Proc.devRef .tc main_v35)) (V (Proc.devRef .tc main_arg6))
    (V (Proc.devRef .tc main_arg7)) (V (Proc.devRef .tc main_arg8)) := by
  simp only [pre_w3]; after_reads_simp; rfl

/-- Part 4 leaves the keys of the loop. -/
theorem w4_keys : after pre_w4 V (Proc.devRef .tc main_v46_0) = loopKeys (V (Proc.devRef .tc main_v42)) := by
  simp only [pre_w4]; after_reads_simp; rfl

/-- Part 4 leaves an empty memory. -/
theorem w4_mem : after pre_w4 V (Proc.devRef .tc main_v46_2)
    = broadcastInDim S16x256x256 ![] bcast_S_S16x256x256 (constant (F := F) S_ .f32 0x00000000#32) := by
  simp only [pre_w4]; after_reads_simp; rfl

/-- All the keys, from the arguments. -/
def allKeys : FVec F S16x2048x256 .f32 :=
  keyRows (normRows (ffnRows (embRows (V (Proc.devRef .tc main_arg0)) (V (Proc.devRef .tc main_arg1))) (V (Proc.devRef .tc main_arg2))
    (V (Proc.devRef .tc main_arg3)) (V (Proc.devRef .tc main_arg4)) (V (Proc.devRef .tc main_arg5))))
    (V (Proc.devRef .tc main_arg6)) (V (Proc.devRef .tc main_arg7)) (V (Proc.devRef .tc main_arg8))

/-- The keys' buffer before the loop. -/
theorem entry_v42 : after hostOps0 V (Proc.devRef .tc main_v42) = allKeys V := by
  rw [hostOps0_cut]
  simp only [after_append]
  rw [after_of_writes_sub pre_w4 _ pre_w4_writes (by decide), w3_rows, w2_rows, w1_rows, w0_rows]
  rw [after_of_writes_sub pre_w2 _ pre_w2_writes (r := main_arg6) (by decide), after_of_writes_sub pre_w1 _ pre_w1_writes (r := main_arg6) (by decide),
    after_of_writes_sub pre_w0 _ pre_w0_writes (r := main_arg6) (by decide)]
  rw [after_of_writes_sub pre_w2 _ pre_w2_writes (r := main_arg7) (by decide), after_of_writes_sub pre_w1 _ pre_w1_writes (r := main_arg7) (by decide),
    after_of_writes_sub pre_w0 _ pre_w0_writes (r := main_arg7) (by decide)]
  rw [after_of_writes_sub pre_w2 _ pre_w2_writes (r := main_arg8) (by decide), after_of_writes_sub pre_w1 _ pre_w1_writes (r := main_arg8) (by decide),
    after_of_writes_sub pre_w0 _ pre_w0_writes (r := main_arg8) (by decide)]
  rw [after_of_writes_sub pre_w0 _ pre_w0_writes (r := main_arg2) (by decide), after_of_writes_sub pre_w0 _ pre_w0_writes (r := main_arg3) (by decide),
    after_of_writes_sub pre_w0 _ pre_w0_writes (r := main_arg4) (by decide), after_of_writes_sub pre_w0 _ pre_w0_writes (r := main_arg5) (by decide)]
  rfl

/-- The loop's keys before the loop. -/
theorem entry_keys : after hostOps0 V (Proc.devRef .tc main_v46_0) = loopKeys (allKeys V) := by
  rw [← entry_v42, hostOps0_cut]
  simp only [after_append]
  rw [w4_keys, after_of_writes_sub pre_w4 _ pre_w4_writes (r := main_v42) (by decide)]

/-- The memory before the loop. -/
theorem entry_mem : after hostOps0 V (Proc.devRef .tc main_v46_2)
    = broadcastInDim S16x256x256 ![] bcast_S_S16x256x256 (constant (F := F) S_ .f32 0x00000000#32) := by
  rw [hostOps0_cut]
  simp only [after_append]
  exact w4_mem _

/-! ## At an index -/

/-- The table read at a position: the row of the position's number, clamped into the table. -/
theorem gather_apply (x : FVec Ideal S32000x256 .f32) (idx : IVec S16x2048x1 32) (g : Fin 16) (t : Fin 2048) (j : Fin 256) :
    Host.gather gather_S32000x256_S16x2048x1_S16x2048x256_2_0_n_n_0_2_1256 x idx (ix3 g t j)
      = x (ix2 ⟨min (idx (ix3 g t 0)).toInt.toNat 31999, by omega⟩ j) := by
  unfold Host.gather
  refine congrArg x (funext fun a => Fin.ext ?_)
  match a with
  | ⟨0, _⟩ =>
    show GatherDims.start gather_S32000x256_S16x2048x1_S16x2048x256_2_0_n_n_0_2_1256 (ix3 g t j) idx 0
      + GatherDims.batchCoord gather_S32000x256_S16x2048x1_S16x2048x256_2_0_n_n_0_2_1256 (ix3 g t j) 0
      + GatherDims.offCoord gather_S32000x256_S16x2048x1_S16x2048x256_2_0_n_n_0_2_1256 (ix3 g t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32000x256_S16x2048x1_S16x2048x256_2_0_n_n_0_2_1256 from List.mem_singleton.mpr rfl)]
    have hsi : GatherDims.siIdx gather_S32000x256_S16x2048x1_S16x2048x256_2_0_n_n_0_2_1256 (ix3 g t j)
        ⟨List.idxOf (0 : Fin 2) (GatherDims.startIndexMap gather_S32000x256_S16x2048x1_S16x2048x256_2_0_n_n_0_2_1256),
          List.idxOf_lt_length_iff.2 (List.mem_singleton.mpr rfl)⟩ = ix3 g t 0 := by
      funext b; refine Fin.ext ?_
      match b with
      | ⟨0, _⟩ => rfl
      | ⟨1, _⟩ => rfl
      | ⟨2, _⟩ => rfl
    rw [hsi]
    rfl
  | ⟨1, _⟩ =>
    show GatherDims.start gather_S32000x256_S16x2048x1_S16x2048x256_2_0_n_n_0_2_1256 (ix3 g t j) idx 1
      + GatherDims.batchCoord gather_S32000x256_S16x2048x1_S16x2048x256_2_0_n_n_0_2_1256 (ix3 g t j) 1
      + GatherDims.offCoord gather_S32000x256_S16x2048x1_S16x2048x256_2_0_n_n_0_2_1256 (ix3 g t j) 1 = _
    rw [GatherDims.batchCoord_eq_zero _ _ _ List.not_mem_nil]
    unfold GatherDims.start GatherDims.offCoord
    rw [dif_neg (show ¬(1 : Fin 2) ∈ GatherDims.startIndexMap gather_S32000x256_S16x2048x1_S16x2048x256_2_0_n_n_0_2_1256 from
        fun h => absurd (List.mem_singleton.1 h) (by decide)),
      dif_pos ((GatherDims.mem_sKept _ _).mpr ⟨fun h => absurd (List.mem_singleton.1 h) (by decide), List.not_mem_nil⟩)]
    simp only [Nat.zero_add, Nat.add_zero]
    rfl

/-- The embedding rows at an index. -/
theorem embRows_apply (seq : IVec S16x2048 32) (emb : FVec Ideal S32000x256 .f32) (g : Fin 16) (t : Fin 2048) (j : Fin 256) :
    embRows seq emb (ix3 g t j) = emb (ix2 (rowNo (seq (ix2 g t))) j) := by
  rw [embRows, gather_apply]
  have h : rowsOf seq (ix3 g t 0) = Scalar.select (IntOp.cmpi .slt (seq (ix2 g t)) 0#32) (IntOp.addi (seq (ix2 g t)) 32000#32) (seq (ix2 g t)) := by
    pointwise [rowsOf]
  simp only [h]
  rfl

/-- The rows after the feed-forward network, at an index. -/
theorem ffnRows_apply (e : FVec Ideal S16x2048x256 .f32) (w1 : FVec Ideal S256x512 .f32) (b1 : FVec Ideal S512 .f32) (w2 : FVec Ideal S512x256 .f32)
    (b2 : FVec Ideal S256 .f32) (g : Fin 16) (t : Fin 2048) (i : Fin 256) : ffnRows e w1 b1 w2 b2 (ix3 g t i)
      = e (ix3 g t i) + ((∑ k, max ((∑ l, e (ix3 g t l) * w1 (ix2 l k)) + b1 (ix1 k)) 0 * w2 (ix2 k i)) + b2 (ix1 i)) := by
  pointwise [ffnRows]

/-- The rows less their means, at an index. -/
theorem centred_apply (x : FVec Ideal S16x2048x256 .f32) (g : Fin 16) (t : Fin 2048) (i : Fin 256) :
    centred x (ix3 g t i) = x (ix3 g t i) - Ideal.div (∑ l, x (ix3 g t l)) (Ideal.ofBits .f32 0x43800000#32) := by
  pointwise [centred, rowMean]

/-- The normalized rows at an index. -/
theorem normRows_apply (x : FVec Ideal S16x2048x256 .f32) (g : Fin 16) (t : Fin 2048) (i : Fin 256) :
    normRows x (ix3 g t i) = centred x (ix3 g t i)
      * Ideal.rsqrt (Ideal.div (∑ l, centred x (ix3 g t l) * centred x (ix3 g t l)) (Ideal.ofBits .f32 0x43800000#32) + Ideal.ofBits .f32 0x3727C5AC#32) := by
  pointwise [normRows, rowMean]

/-- The keys at an index. -/
theorem keyRows_apply (x : FVec Ideal S16x2048x256 .f32) (gn b : FVec Ideal S256 .f32) (kp : FVec Ideal S256x256 .f32) (g : Fin 16) (t : Fin 2048)
    (j : Fin 256) : keyRows x gn b kp (ix3 g t j) = ∑ i, (x (ix3 g t i) * gn (ix1 i) + b (ix1 i)) * kp (ix2 i j) := by
  pointwise [keyRows]

/-- The network that the arguments' buffers hold. -/
def netOf (V : Valuation τ sig (Elt Ideal)) : Net where
  seq g t := (V (Proc.devRef .tc main_arg0) : IVec S16x2048 32) (ix2 g t)
  emb r l := (V (Proc.devRef .tc main_arg1) : FVec Ideal S32000x256 .f32) (ix2 r l)
  w1 i k := (V (Proc.devRef .tc main_arg2) : FVec Ideal S256x512 .f32) (ix2 i k)
  b1 k := (V (Proc.devRef .tc main_arg3) : FVec Ideal S512 .f32) (ix1 k)
  w2 k i := (V (Proc.devRef .tc main_arg4) : FVec Ideal S512x256 .f32) (ix2 k i)
  b2 i := (V (Proc.devRef .tc main_arg5) : FVec Ideal S256 .f32) (ix1 i)
  g i := (V (Proc.devRef .tc main_arg6) : FVec Ideal S256 .f32) (ix1 i)
  b i := (V (Proc.devRef .tc main_arg7) : FVec Ideal S256 .f32) (ix1 i)
  kp i j := (V (Proc.devRef .tc main_arg8) : FVec Ideal S256x256 .f32) (ix2 i j)
  rp i j := (V (Proc.devRef .tc main_arg9) : FVec Ideal S256x256 .f32) (ix2 i j)
  rb j := (V (Proc.devRef .tc main_arg10) : FVec Ideal S256 .f32) (ix1 j)
  ow k v := (V (Proc.devRef .tc main_arg11) : FVec Ideal S256x32000 .f32) (ix2 k v)
  ob v := (V (Proc.devRef .tc main_arg12) : FVec Ideal S32000 .f32) (ix1 v)

/-- All the keys at an index. -/
theorem allKeys_apply (V : Valuation τ sig (Elt Ideal)) (g : Fin 16) (t : Fin 2048) (j : Fin 256) : allKeys V (ix3 g t j) = (netOf V).key g t.val j := by
  rw [allKeys, keyRows_apply]
  simp only [normRows_apply, centred_apply, ffnRows_apply, embRows_apply]
  have ht : (⟨t.val % 2048, Nat.mod_lt _ (by decide)⟩ : Fin 2048) = t := Fin.ext (Nat.mod_eq_of_lt t.isLt)
  rw [Net.key, ht]
  rfl

/-- The loop's keys at an index. -/
theorem loopKeys_apply (k : FVec Ideal S16x2048x256 .f32) (t : Fin 2047) (g : Fin 16) (j : Fin 256) :
    loopKeys k (ix3 t g j) = k (ix3 g ⟨t.val, by omega⟩ j) := by
  pointwise [loopKeys]

end Cert.ReferenceIdeal.Value

end
-- ==== Proof.RefLoop.lean ====
/- What the reference computes: its loop is the sequential delta rule, and its result is the network's. -/
module

public import proofs.«01_k».proof.Proof.RefEntry
public import Idealize.ShloMosaic.Lib.Scf.Counter
public import Idealize.ShloMosaic.Lib.WordCmp

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo
open Cert.Delta

variable (m : (ℓ : Loc nD τ sig) → Buf (Elt Ideal) ℓ) (ρ : Dev nD → PrngReg)

/-! ## One trip at an index -/

/-- The counter of trip `k`. -/
theorem ctr_toInt : ∀ k : ℕ, k < 2047 → (Scf.iv (0#32) (1#32) k).toInt = (k : Int) := by
  intro k hk
  have h : ∀ k : ℕ, Scf.iv (0#32) (1#32) k = BitVec.ofNat 32 k := by
    intro k
    induction k with
    | zero => rw [Scf.iv_zero]
    | succ k ih => rw [Scf.iv_succ, ih, BitVec.ofNat_add]
  rw [h, WordCmp.toInt_ofNat_of_lt (by omega)]

/-- The key that a trip reads, of the keys and the counter. -/
def tripKey (ks : FVec Ideal S2047x16x256 .f32) (ctr : IVec S_ 32) : FVec Ideal S16x256 .f32 :=
  shapeCast S16x256 (Host.dynamicSlice S1x16x256 ks (fun k => ((![ctr, constantI S_ 32 0#32, constantI S_ 32 0#32] : Fin 3 → IVec S_ 32) k
    (Shape.Idx.first h_S_)).toInt) sliceFits_S2047x16x256_S1x16x256) shapeCasts_S1x16x256_S16x256

/-- The unit key of a trip, of its key. -/
def tripUnit (k : FVec Ideal S16x256 .f32) : FVec Ideal S16x256 .f32 :=
  Host.divf k (broadcastInDim S16x256 ![0, 1] bcast_S16x1_S16x256_0_1 (maximumf (Host.sqrt (broadcastInDim S16x1 ![0] bcast_S16_S16x1_0
    (Host.reduceAdd (mulf k k) (constant S_ .f32 0x00000000#32) reducesTo_S16x256_S16_d1 h_S_)))
    (broadcastInDim S16x1 ![] bcast_S_S16x1 (constant S_ .f32 0x2B8CBCCC#32))))

/-- The memory after a trip, of the memory before it, the key and the unit key. -/
def tripMem (M : FVec Ideal S16x256x256 .f32) (k u : FVec Ideal S16x256 .f32) : FVec Ideal S16x256x256 .f32 :=
  addf M (mulf (broadcastInDim S16x256x256 ![0, 1, 2] bcast_S16x256x1_S16x256x256_0_1_2 (broadcastInDim S16x256x1 ![0, 1] bcast_S16x256_S16x256x1_0_1
      (subf k (Host.dotGeneral dot_S16x256x256_S16x256_S16x256_2_1_1_n_0_0 none M u))))
    (broadcastInDim S16x256x256 ![0, 1, 2] bcast_S16x1x256_S16x256x256_0_1_2 (broadcastInDim S16x1x256 ![0, 2] bcast_S16x256_S16x1x256_0_2 u)))

/-- The key that trip `k` reads is that of position `k`. -/
theorem tripKey_apply (ks : FVec Ideal S2047x16x256 .f32) (k : ℕ) (hk : k < 2047) (g : Fin 16) (j : Fin 256) :
    tripKey ks (fun _ => Scf.iv 0#32 1#32 k) (ix2 g j) = ks (ix3 ⟨k, hk⟩ g j) := by
  have h0 := ctr_toInt k hk
  have hs : S2047x16x256.Slices ![k, 0, 0] S1x16x256 := ⟨rfl, fun a => by
    match a with
    | ⟨0, _⟩ => show k + 1 ≤ 2047; omega
    | ⟨1, _⟩ => show 0 + 16 ≤ 16; omega
    | ⟨2, _⟩ => show 0 + 256 ≤ 256; omega⟩
  unfold tripKey
  rw [WordCmp.dynamicSlice_eq_extract _ _ _ _ ![k, 0, 0] hs (fun a => by
    match a with
    | ⟨0, _⟩ => exact h0
    | ⟨1, _⟩ => rfl
    | ⟨2, _⟩ => rfl)]
  pointwise []

/-- The unit key of a trip at an index. -/
theorem tripUnit_apply (k : FVec Ideal S16x256 .f32) (g : Fin 16) (j : Fin 256) :
    tripUnit k (ix2 g j) = unitRow epsE (fun j => k (ix2 g j)) j := by
  pointwise [tripUnit, unitRow]

/-- The memory after a trip at an index. -/
theorem tripMem_apply (M : FVec Ideal S16x256x256 .f32) (k u : FVec Ideal S16x256 .f32) (g : Fin 16) (a b : Fin 256) :
    tripMem M k u (ix3 g a b) = M (ix3 g a b) + (k (ix2 g a) - ∑ j, M (ix3 g a j) * u (ix2 g j)) * u (ix2 g b) := by
  pointwise [tripMem]

/-! ## The loop -/

/-- The contents that the loop starts from, on a core. -/
abbrev V0 (c : Dev nD) : Valuation τ sig (Elt Ideal) := fun r => m (c, r)

/-- The contents before the loop. -/
abbrev VE (c : Dev nD) : Valuation τ sig (Elt Ideal) := entryContents preI m c

/-- The memory's buffer after `k` trips. -/
def memK (k : ℕ) (c : Dev nD) : FVec Ideal S16x256x256 .f32 := atK m k c (Proc.devRef .tc main_v46_2)

/-- The keys' buffer is the same before every trip. -/
theorem keys_keep (c : Dev nD) : ∀ k, atK m k c (Proc.devRef .tc main_v46_0) = loopKeys (allKeys (V0 m c))
  | 0 => entry_keys (V0 m c)
  | k + 1 => ((trip_agree (atK m k c)) main_v46_0 (by decide)).trans ((STEP_main_v46_0 _).trans (keys_keep c k))

/-- One trip's memory. -/
theorem memK_succ (c : Dev nD) (k : ℕ) : memK m (k + 1) c
    = tripMem (memK m k c) (tripKey (loopKeys (allKeys (V0 m c))) (fun _ => Scf.iv 0#32 1#32 k))
        (tripUnit (tripKey (loopKeys (allKeys (V0 m c))) (fun _ => Scf.iv 0#32 1#32 k))) := by
  have h : memK m (k + 1) c = tripMem (memK m k c) (tripKey (atK m k c (Proc.devRef .tc main_v46_0)) (atK m k c (Proc.devRef .tc main_v46_1)))
      (tripUnit (tripKey (atK m k c (Proc.devRef .tc main_v46_0)) (atK m k c (Proc.devRef .tc main_v46_1)))) :=
    ((trip_agree (atK m k c)) main_v46_2 (by decide)).trans (STEP_main_v46_2 _)
  rw [h, keys_keep m c k, atK_ctr m c k]
  rfl

/-- After `k` trips the memory of a sequence is that of its first `k` keys, one at a time. -/
theorem memK_apply (c : Dev nD) (g : Fin 16) : ∀ k, k ≤ 2047 → ∀ a b : Fin 256,
    memK m k c (ix3 g a b) = seqE epsE ((netOf (V0 m c)).key g) k a b
  | 0, _, a, b => by
    rw [show memK m 0 c = broadcastInDim S16x256x256 ![] bcast_S_S16x256x256 (constant (F := Ideal) S_ .f32 0x00000000#32) from entry_mem (V0 m c)]
    pointwise [seqE]
  | k + 1, hk, a, b => by
    have hK : ∀ j, tripKey (loopKeys (allKeys (V0 m c))) (fun _ => Scf.iv 0#32 1#32 k) (ix2 g j) = (netOf (V0 m c)).key g k j := fun j => by
      rw [tripKey_apply _ k (by omega), loopKeys_apply, allKeys_apply]
    rw [memK_succ, tripMem_apply]
    simp only [tripUnit_apply, hK, memK_apply c g k (by omega), seqE]

/-! ## After the loop -/

/-- The last position's keys. -/
def lastKeys (k : FVec Ideal S16x2048x256 .f32) : FVec Ideal S16x256 .f32 :=
  shapeCast S16x256 (extractStridedSlice S16x1x256 ![0, 2047, 0] k slices_S16x2048x256_S16x1x256_0_2047_0) shapeCasts_S16x1x256_S16x256

/-- The read-out rows. -/
def readRows (M : FVec Ideal S16x256x256 .f32) (q : FVec Ideal S16x256 .f32) (rp : FVec Ideal S256x256 .f32) (rb : FVec Ideal S256 .f32) :
    FVec Ideal S16x256 .f32 :=
  addf (Host.dotGeneral dot_S16x256_S256x256_S16x256_1_0_0_1_n_n none (Host.dotGeneral dot_S16x256x256_S16x256_S16x256_2_1_1_n_0_0 none M q) rp)
    (broadcastInDim S16x256 ![0, 1] bcast_S1x256_S16x256_0_1 (broadcastInDim S1x256 ![1] bcast_S256_S1x256_1 rb))

/-- The logits. -/
def logits (r : FVec Ideal S16x256 .f32) (ow : FVec Ideal S256x32000 .f32) (ob : FVec Ideal S32000 .f32) : FVec Ideal S16x32000 .f32 :=
  addf (Host.dotGeneral dot_S16x256_S256x32000_S16x32000_1_0_0_1_n_n none r ow)
    (broadcastInDim S16x32000 ![0, 1] bcast_S1x32000_S16x32000_0_1 (broadcastInDim S1x32000 ![1] bcast_S32000_S1x32000_1 ob))

/-- The last position's keys at an index. -/
theorem lastKeys_apply (k : FVec Ideal S16x2048x256 .f32) (g : Fin 16) (j : Fin 256) : lastKeys k (ix2 g j) = k (ix3 g ⟨2047, by decide⟩ j) := by
  pointwise [lastKeys]

/-- The read-out rows at an index. -/
theorem readRows_apply (M : FVec Ideal S16x256x256 .f32) (q : FVec Ideal S16x256 .f32) (rp : FVec Ideal S256x256 .f32) (rb : FVec Ideal S256 .f32)
    (g : Fin 16) (j : Fin 256) : readRows M q rp rb (ix2 g j) = (∑ i, (∑ l, M (ix3 g i l) * q (ix2 g l)) * rp (ix2 i j)) + rb (ix1 j) := by
  pointwise [readRows]

/-- The logits at an index. -/
theorem logits_apply (r : FVec Ideal S16x256 .f32) (ow : FVec Ideal S256x32000 .f32) (ob : FVec Ideal S32000 .f32) (g : Fin 16) (v : Fin 32000) :
    logits r ow ob (ix2 g v) = (∑ k, r (ix2 g k) * ow (ix2 k v)) + ob (ix1 v) := by
  pointwise [logits]

/-- What the operations after the loop leave in the result. -/
theorem post_result (V : Valuation τ sig (Elt Ideal)) : after hostOps0_1 V (Proc.devRef .tc main_v57)
    = logits (readRows (V (Proc.devRef .tc main_v46_2)) (lastKeys (V (Proc.devRef .tc main_v42))) (V (Proc.devRef .tc main_arg9))
        (V (Proc.devRef .tc main_arg10))) (V (Proc.devRef .tc main_arg11)) (V (Proc.devRef .tc main_arg12)) := by
  simp only [hostOps0_1]; after_reads_simp; rfl

/-- A buffer that no operation of the loop writes, before the operations after the loop. -/
theorem before_post (c : Dev nD) (r : Ref sig .tc) (hc : r ∉ condOps_W) (hb : r ∉ while0Ops0_W) (hb1 : r ∉ while0Ops0_1_W) (hb2 : r ∉ while0Ops0_2_W) :
    after condOps (atK m 2047 c) (Proc.devRef .tc r) = VE m c (Proc.devRef .tc r) := by
  rw [after_of_writes_sub condOps _ condOps_writes hc]
  exact trips_keep _ c r hc hb hb1 hb2 2047

/-- An argument's buffer before the operations after the loop. -/
theorem arg_post (c : Dev nD) (r : Ref sig .tc) (hc : r ∉ condOps_W) (hb : r ∉ while0Ops0_W) (hb1 : r ∉ while0Ops0_1_W) (hb2 : r ∉ while0Ops0_2_W)
    (h0 : r ∉ hostOps0_W) : after condOps (atK m 2047 c) (Proc.devRef .tc r) = V0 m c (Proc.devRef .tc r) := by
  rw [before_post m c r hc hb hb1 hb2]
  exact after_of_writes_sub hostOps0 _ hostOps0_writes h0

/-- The reference's result: the network's. -/
def result (N : Net) : FVec Ideal S16x32000 .f32 := fun i => N.out (i 0) (i 1)

/-- The result's buffer after a run. -/
theorem final_result (c : Dev nD) :
    finalContents condOps preI bodyI postI 2047 m c (Proc.devRef .tc main_v57) = result (netOf (V0 m c)) := by
  rw [show finalContents condOps preI bodyI postI 2047 m c (Proc.devRef .tc main_v57)
      = after hostOps0_1 (after condOps (atK m 2047 c)) (Proc.devRef .tc main_v57) from rfl, post_result]
  rw [arg_post m c main_arg9 (by decide) (by decide) (by decide) (by decide) (by decide),
    arg_post m c main_arg10 (by decide) (by decide) (by decide) (by decide) (by decide),
    arg_post m c main_arg11 (by decide) (by decide) (by decide) (by decide) (by decide),
    arg_post m c main_arg12 (by decide) (by decide) (by decide) (by decide) (by decide),
    before_post m c main_v42 (by decide) (by decide) (by decide) (by decide),
    show VE m c (Proc.devRef .tc main_v42) = allKeys (V0 m c) from entry_v42 (V0 m c),
    after_of_writes_sub condOps _ condOps_writes (r := main_v46_2) (by decide),
    show atK m 2047 c (Proc.devRef .tc main_v46_2) = memK m 2047 c from rfl]
  refine funext fun i => ?_
  idx_vars i
  rw [logits_apply]
  simp only [readRows_apply, lastKeys_apply, allKeys_apply, memK_apply m c _ 2047 (le_refl _)]
  rfl

end Cert.ReferenceIdeal.Value

end
-- ==== Proof.lean ====
module

public import proofs.«01_k».proof.Defs
public import proofs.«01_k».proof.Proof.KB.Frame
public import proofs.«01_k».proof.Proof.KI.Value
public import proofs.«01_k».proof.Proof.RefLoop

@[expose] public section

noncomputable section

namespace Cert.Proof

open Idealize.ShloMosaic Idealize.SL.Sem Cert.Kernel

/-- From equal arguments the kernel and the reference end with equal results: the network's. -/
theorem algebraic : Cert.algebraic_KernelIdeal_ReferenceIdeal (hKernelIdeal := Cert.KernelIdeal.Gen.facts) (hReferenceIdeal := Cert.ReferenceIdeal.Gen.facts) := by
  intro m g m' g' _ hargs
  have hnet : ∀ c, Cert.ReferenceIdeal.Value.netOf (Cert.ReferenceIdeal.Value.V0 m' c) = Cert.KernelIdeal.Gen.netK m c := by
    intro c
    obtain ⟨h0, h1, h2, h3, h4, h5, h6, h7, h8, h9, h10, h11, h12⟩ := hargs c
    unfold Cert.KernelIdeal.Gen.netK
    rw [← h0, ← h1, ← h2, ← h3, ← h4, ← h5, ← h6, ← h7, ← h8, ← h9, ← h10, ← h11, ← h12]
    rfl
  refine ⟨fun c => Cert.KernelIdeal.Gen.netOut (Cert.KernelIdeal.Gen.netK m c), ?_, ?_⟩
  · refine (θ_run Cert.KernelIdeal.defs _ _).mono (fun r h c => ⟨?_, h.2 c⟩)
      (θ_run_and (Cert.KernelIdeal.Gen.run_main m g) (Cert.KernelIdeal.Gen.frame_of m g _ (Cert.KernelIdeal.Gen.A_eq m) (Cert.KernelIdeal.Gen.run_main m g)))
    exact (h.1.out_eq c 13).trans (Cert.KernelIdeal.Gen.final_value m c)
  · refine (θ_run Cert.ReferenceIdeal.defs _ _).mono (fun r h c => ⟨?_, h.2.1 c⟩)
      (θ_run_and (Cert.ReferenceIdeal.Value.run_fold m' g') (Cert.ReferenceIdeal.Value.frame m' g'))
    exact (h.1 c Cert.ReferenceIdeal.main_v57 (by decide)).trans
      ((Cert.ReferenceIdeal.Value.final_result m' c).trans (congrArg Cert.ReferenceIdeal.Value.result (hnet c)))

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Value.frame m ρ, trivial, algebraic⟩

end Cert.Proof

end
